-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![512, 32, 16, 128]⟩ (Layout.meshBlock [2, 2, 4] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![512, 32, 16, 128]⟩ (Layout.meshBlock [2, 2, 4] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S256x32x16x128 : S_.BroadcastsInDim S256x32x16x128 (![] : Fin 0 → Fin S256x32x16x128.rank)
  reducesTo_S256x32x16x128_S_d0_1_2_3 : S256x32x16x128.ReducesTo [0, 1, 2, 3] S_
  bcast_S_S32 : S_.BroadcastsInDim S32 (![] : Fin 0 → Fin S32.rank)
  reducesTo_S32_S_d0 : S32.ReducesTo [0] S_
  bcast_S_S32x256 : S_.BroadcastsInDim S32x256 (![] : Fin 0 → Fin S32x256.rank)
  reducesTo_S32x256_S_d0_1 : S32x256.ReducesTo [0, 1] S_

variable [Facts]

def fn_part1 {F : FTy → Type} [FloatOps F] (main_arg3 : IVec S32x256 32) (main_v5 : IVec S32x256 1) (main_v14 : IVec S_ 1) (main_v17 : IVec S_ 1) : IVec S_ 1 :=
  let main_v18 : IVec S_ 1 := andi main_v14 main_v17
  let main_v19 : IVec S32x256 1 := noti main_v5
  let main_c_4 : IVec S_ 32 := constantI S_ 32 0#32
  let main_v20 : IVec S32x256 32 := broadcastInDim S32x256 ![] bcast_S_S32x256 main_c_4
  let main_v21 : IVec S32x256 1 := cmpi .sge main_arg3 main_v20
  let main_c_5 : IVec S_ 32 := constantI S_ 32 512#32
  let main_v22 : IVec S32x256 32 := broadcastInDim S32x256 ![] bcast_S_S32x256 main_c_5
  let main_v23 : IVec S32x256 1 := cmpi .slt main_arg3 main_v22
  let main_v24 : IVec S32x256 1 := andi main_v21 main_v23
  let main_v25 : IVec S32x256 1 := ori main_v19 main_v24
  let main_c_6 : IVec S_ 1 := constantI S_ 1 1#1
  let main_v26 : IVec S_ 1 := (fun x v => Host.reduce IntOp.andi x v reducesTo_S32x256_S_d0_1 h_S_) main_v25 main_c_6
  let main_v27 : IVec S_ 1 := andi main_v18 main_v26
  main_v27

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32 32) : IVec S_ 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .slt main_v3 main_v4
  let main_v6 : FVec F S32x1x16x128 .f32 := Host.absf main_arg0
  let main_cst : FVec F S_ .f32 := constant S_ .f32 0x7F800000#32
  let main_v7 : FVec F S32x1x16x128 .f32 := broadcastInDim S32x1x16x128 ![] bcast_S_S32x1x16x128 main_cst
  let main_v8 : IVec S32x1x16x128 1 := cmpf .olt main_v6 main_v7
  let main_c : IVec S_ 1 := constantI S_ 1 1#1
  let main_v9 : IVec S_ 1 := (fun x v => Host.reduce IntOp.andi x v reducesTo_S32x1x16x128_S_d0_1_2_3 h_S_) main_v8 main_c
  let main_v10 : FVec F S256x32x16x128 .f32 := Host.absf main_arg1
  let main_cst_0 : FVec F S_ .f32 := constant S_ .f32 0x7F800000#32
  let main_v11 : FVec F S256x32x16x128 .f32 := broadcastInDim S256x32x16x128 ![] bcast_S_S256x32x16x128 main_cst_0
  let main_v12 : IVec S256x32x16x128 1 := cmpf .olt main_v10 main_v11
  let main_c_1 : IVec S_ 1 := constantI S_ 1 1#1
  let main_v13 : IVec S_ 1 := (fun x v => Host.reduce IntOp.andi x v reducesTo_S256x32x16x128_S_d0_1_2_3 h_S_) main_v12 main_c_1
  let main_v14 : IVec S_ 1 := andi main_v9 main_v13
  let main_c_2 : IVec S_ 32 := constantI S_ 32 1#32
  let main_v15 : IVec S32 32 := broadcastInDim S32 ![] bcast_S_S32 main_c_2
  let main_v16 : IVec S32 1 := cmpi .sge main_arg4 main_v15
  let main_c_3 : IVec S_ 1 := constantI S_ 1 1#1
  let main_v17 : IVec S_ 1 := (fun x v => Host.reduce IntOp.andi x v reducesTo_S32_S_d0 h_S_) main_v16 main_c_3
  fn_part1 (F := F) main_arg3 main_v5 main_v14 main_v17
-- ==== Pre_served_ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S512x32x16x128 : S_.BroadcastsInDim S512x32x16x128 (![] : Fin 0 → Fin S512x32x16x128.rank)
  reducesTo_S512x32x16x128_S_d0_1_2_3 : S512x32x16x128.ReducesTo [0, 1, 2, 3] S_
  bcast_S_S32 : S_.BroadcastsInDim S32 (![] : Fin 0 → Fin S32.rank)
  reducesTo_S32_S_d0 : S32.ReducesTo [0] S_
  bcast_S_S32x256 : S_.BroadcastsInDim S32x256 (![] : Fin 0 → Fin S32x256.rank)
  reducesTo_S32x256_S_d0_1 : S32x256.ReducesTo [0, 1] S_

variable [Facts]

def fn_part1 {F : FTy → Type} [FloatOps F] (main_arg3 : IVec S32x256 32) (main_v5 : IVec S32x256 1) (main_v14 : IVec S_ 1) (main_v17 : IVec S_ 1) : IVec S_ 1 :=
  let main_v18 : IVec S_ 1 := andi main_v14 main_v17
  let main_v19 : IVec S32x256 1 := noti main_v5
  let main_c_4 : IVec S_ 32 := constantI S_ 32 0#32
  let main_v20 : IVec S32x256 32 := broadcastInDim S32x256 ![] bcast_S_S32x256 main_c_4
  let main_v21 : IVec S32x256 1 := cmpi .sge main_arg3 main_v20
  let main_c_5 : IVec S_ 32 := constantI S_ 32 512#32
  let main_v22 : IVec S32x256 32 := broadcastInDim S32x256 ![] bcast_S_S32x256 main_c_5
  let main_v23 : IVec S32x256 1 := cmpi .slt main_arg3 main_v22
  let main_v24 : IVec S32x256 1 := andi main_v21 main_v23
  let main_v25 : IVec S32x256 1 := ori main_v19 main_v24
  let main_c_6 : IVec S_ 1 := constantI S_ 1 1#1
  let main_v26 : IVec S_ 1 := (fun x v => Host.reduce IntOp.andi x v reducesTo_S32x256_S_d0_1 h_S_) main_v25 main_c_6
  let main_v27 : IVec S_ 1 := andi main_v18 main_v26
  main_v27

def fn {F : FTy → Type} [FloatOps F] (main_arg0 : FVec F S32x1x16x128 .f32) (main_arg1 : FVec F S512x32x16x128 .f32) (main_arg2 : FVec F S512x32x16x128 .f32) (main_arg3 : IVec S32x256 32) (main_arg4 : IVec S32 32) : IVec S_ 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .slt main_v3 main_v4
  let main_v6 : FVec F S32x1x16x128 .f32 := Host.absf main_arg0
  let main_cst : FVec F S_ .f32 := constant S_ .f32 0x7F800000#32
  let main_v7 : FVec F S32x1x16x128 .f32 := broadcastInDim S32x1x16x128 ![] bcast_S_S32x1x16x128 main_cst
  let main_v8 : IVec S32x1x16x128 1 := cmpf .olt main_v6 main_v7
  let main_c : IVec S_ 1 := constantI S_ 1 1#1
  let main_v9 : IVec S_ 1 := (fun x v => Host.reduce IntOp.andi x v reducesTo_S32x1x16x128_S_d0_1_2_3 h_S_) main_v8 main_c
  let main_v10 : FVec F S512x32x16x128 .f32 := Host.absf main_arg1
  let main_cst_0 : FVec F S_ .f32 := constant S_ .f32 0x7F800000#32
  let main_v11 : FVec F S512x32x16x128 .f32 := broadcastInDim S512x32x16x128 ![] bcast_S_S512x32x16x128 main_cst_0
  let main_v12 : IVec S512x32x16x128 1 := cmpf .olt main_v10 main_v11
  let main_c_1 : IVec S_ 1 := constantI S_ 1 1#1
  let main_v13 : IVec S_ 1 := (fun x v => Host.reduce IntOp.andi x v reducesTo_S512x32x16x128_S_d0_1_2_3 h_S_) main_v12 main_c_1
  let main_v14 : IVec S_ 1 := andi main_v9 main_v13
  let main_c_2 : IVec S_ 32 := constantI S_ 32 1#32
  let main_v15 : IVec S32 32 := broadcastInDim S32 ![] bcast_S_S32 main_c_2
  let main_v16 : IVec S32 1 := cmpi .sge main_arg4 main_v15
  let main_c_3 : IVec S_ 1 := constantI S_ 1 1#1
  let main_v17 : IVec S_ 1 := (fun x v => Host.reduce IntOp.andi x v reducesTo_S32_S_d0 h_S_) main_v16 main_c_3
  fn_part1 (F := F) main_arg3 main_v5 main_v14 main_v17
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S_ : Shape := ⟨0, ![]⟩
abbrev S256 : Shape := ⟨1, ![256]⟩
abbrev S1x256 : Shape := ⟨2, ![1, 256]⟩
abbrev S32x1 : Shape := ⟨2, ![32, 1]⟩
abbrev S32x256x1 : Shape := ⟨3, ![32, 256, 1]⟩
abbrev S1x1x256 : Shape := ⟨3, ![1, 1, 256]⟩
abbrev S32x256x256 : Shape := ⟨3, ![32, 256, 256]⟩
abbrev S32x256x32 : Shape := ⟨3, ![32, 256, 32]⟩
abbrev S32x8192 : Shape := ⟨2, ![32, 8192]⟩
abbrev S32x16x128 : Shape := ⟨3, ![32, 16, 128]⟩
abbrev S16x32x128 : Shape := ⟨3, ![16, 32, 128]⟩
abbrev S32x16 : Shape := ⟨2, ![32, 16]⟩
abbrev S2x256x32x128 : Shape := ⟨4, ![2, 256, 32, 128]⟩
abbrev S2 : Shape := ⟨1, ![2]⟩
abbrev S17 : Shape := ⟨1, ![17]⟩
abbrev S1 : Shape := ⟨1, ![1]⟩
abbrev S1x256x32x128 : Shape := ⟨4, ![1, 256, 32, 128]⟩
abbrev S256x32x128 : Shape := ⟨3, ![256, 32, 128]⟩
abbrev S256x32x1x128 : Shape := ⟨4, ![256, 32, 1, 128]⟩
abbrev S1x32x128 : Shape := ⟨3, ![1, 32, 128]⟩
abbrev S32x128 : Shape := ⟨2, ![32, 128]⟩
abbrev S8192x128 : Shape := ⟨2, ![8192, 128]⟩
abbrev S32x1x128 : Shape := ⟨3, ![32, 1, 128]⟩

abbrev nBuf : Space → Nat
  | .hbm => 43
  | .vmem => 9
  | .smem => 0
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S256, .i32⟩
  | .hbm, ⟨14, _⟩ => ⟨S1x256, .i32⟩
  | .hbm, ⟨15, _⟩ => ⟨S32x1, .i32⟩
  | .hbm, ⟨16, _⟩ => ⟨S32x256, .i32⟩
  | .hbm, ⟨17, _⟩ => ⟨S32x256, .i32⟩
  | .hbm, ⟨18, _⟩ => ⟨S32x256, .i1⟩
  | .hbm, ⟨19, _⟩ => ⟨S_, .i32⟩
  | .hbm, ⟨20, _⟩ => ⟨S_, .i32⟩
  | .hbm, ⟨21, _⟩ => ⟨S32x256, .i32⟩
  | .hbm, ⟨22, _⟩ => ⟨S32x256, .i32⟩
  | .hbm, ⟨23, _⟩ => ⟨S32x256, .i32⟩
  | .hbm, ⟨24, _⟩ => ⟨S32x256, .i32⟩
  | .hbm, ⟨25, _⟩ => ⟨S32x256x1, .i32⟩
  | .hbm, ⟨26, _⟩ => ⟨S256, .i32⟩
  | .hbm, ⟨27, _⟩ => ⟨S1x1x256, .i32⟩
  | .hbm, ⟨28, _⟩ => ⟨S32x256x256, .i32⟩
  | .hbm, ⟨29, _⟩ => ⟨S32x256x256, .i32⟩
  | .hbm, ⟨30, _⟩ => ⟨S32x256x256, .i1⟩
  | .hbm, ⟨31, _⟩ => ⟨S32x256x256, .f32⟩
  | .hbm, ⟨32, _⟩ => ⟨S_, .f32⟩
  | .hbm, ⟨33, _⟩ => ⟨S32x256, .f32⟩
  | .hbm, ⟨34, _⟩ => ⟨S32x256x32, .f32⟩
  | .hbm, ⟨35, _⟩ => ⟨S32x8192, .f32⟩
  | .hbm, ⟨36, _⟩ => ⟨S32x16x128, .f32⟩
  | .hbm, ⟨37, _⟩ => ⟨S16x32x128, .f32⟩
  | .hbm, ⟨38, _⟩ => ⟨S_, .f32⟩
  | .hbm, ⟨39, _⟩ => ⟨S16x32x128, .f32⟩
  | .hbm, ⟨40, _⟩ => ⟨S16x32x128, .f32⟩
  | .hbm, ⟨41, _⟩ => ⟨S32x16x128, .f32⟩
  | .hbm, ⟨42, _⟩ => ⟨S32x1x16x128, .f32⟩
  | .local _ .vmem, ⟨0, _⟩ => ⟨S16x32x128, .f32⟩
  | .local _ .vmem, ⟨1, _⟩ => ⟨S32x8192, .f32⟩
  | .local _ .vmem, ⟨2, _⟩ => ⟨S32x16x128, .f32⟩
  | .local _ .vmem, ⟨3, _⟩ => ⟨S16x32x128, .f32⟩
  | .local _ .vmem, ⟨4, _⟩ => ⟨S32x16, .f32⟩
  | .local _ .vmem, ⟨5, _⟩ => ⟨S16x32x128, .f32⟩
  | .local _ .vmem, ⟨6, _⟩ => ⟨S32x16, .f32⟩
  | .local _ .vmem, ⟨7, _⟩ => ⟨S2x256x32x128, .f32⟩
  | .local _ .vmem, ⟨8, _⟩ => ⟨S2x256x32x128, .f32⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_22 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_21 : BitVec 32 := 8#32
  let v23 : BitVec 32 := Scalar.muli v9 c8_i32_21
  let v24 : BitVec 32 := Scalar.addi c0_i32_22 v23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v25 : BitVec 32 := Scalar.muli v5 c4_i32_23
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v27 : BitVec 32 := Scalar.muli v8 c1_i32_24
  let v28 : BitVec 32 := Scalar.addi v26 v27
  v28.toNat
def k0_dev2 (d0 : Dev nD) : Nat :=
  let c0_i32_86 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_85 : BitVec 32 := 8#32
  let v75 : BitVec 32 := Scalar.muli v9 c8_i32_85
  let v76 : BitVec 32 := Scalar.addi c0_i32_86 v75
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v77 : BitVec 32 := Scalar.muli v5 c4_i32_87
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v79 : BitVec 32 := Scalar.muli v8 c1_i32_88
  let v80 : BitVec 32 := Scalar.addi v78 v79
  v80.toNat
def k0_dev3 (d0 : Dev nD) : Nat :=
  let c0_i32_152 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_151 : BitVec 32 := 8#32
  let v133 : BitVec 32 := Scalar.muli v9 c8_i32_151
  let v134 : BitVec 32 := Scalar.addi c0_i32_152 v133
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_153 : BitVec 32 := 4#32
  let v135 : BitVec 32 := Scalar.muli v5 c4_i32_153
  let v136 : BitVec 32 := Scalar.addi v134 v135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v137 : BitVec 32 := Scalar.muli v8 c1_i32_154
  let v138 : BitVec 32 := Scalar.addi v136 v137
  v138.toNat
def k0_dev4 (d0 : Dev nD) : Nat :=
  let c0_i32_217 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_216 : BitVec 32 := 8#32
  let v191 : BitVec 32 := Scalar.muli v9 c8_i32_216
  let v192 : BitVec 32 := Scalar.addi c0_i32_217 v191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_218 : BitVec 32 := 4#32
  let v193 : BitVec 32 := Scalar.muli v5 c4_i32_218
  let v194 : BitVec 32 := Scalar.addi v192 v193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_219 : BitVec 32 := 1#32
  let v195 : BitVec 32 := Scalar.muli v8 c1_i32_219
  let v196 : BitVec 32 := Scalar.addi v194 v195
  v196.toNat
def k0_dev5 (d0 : Dev nD) : Nat :=
  let c0_i32_283 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_282 : BitVec 32 := 8#32
  let v249 : BitVec 32 := Scalar.muli v9 c8_i32_282
  let v250 : BitVec 32 := Scalar.addi c0_i32_283 v249
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_284 : BitVec 32 := 4#32
  let v251 : BitVec 32 := Scalar.muli v5 c4_i32_284
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_285 : BitVec 32 := 1#32
  let v253 : BitVec 32 := Scalar.muli v8 c1_i32_285
  let v254 : BitVec 32 := Scalar.addi v252 v253
  v254.toNat
def k0_dev6 (d0 : Dev nD) : Nat :=
  let c0_i32_348 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_347 : BitVec 32 := 8#32
  let v307 : BitVec 32 := Scalar.muli v9 c8_i32_347
  let v308 : BitVec 32 := Scalar.addi c0_i32_348 v307
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_349 : BitVec 32 := 4#32
  let v309 : BitVec 32 := Scalar.muli v5 c4_i32_349
  let v310 : BitVec 32 := Scalar.addi v308 v309
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_350 : BitVec 32 := 1#32
  let v311 : BitVec 32 := Scalar.muli v8 c1_i32_350
  let v312 : BitVec 32 := Scalar.addi v310 v311
  v312.toNat
def k0_dev7 (d0 : Dev nD) : Nat :=
  let c0_i32_413 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_412 : BitVec 32 := 8#32
  let v365 : BitVec 32 := Scalar.muli v9 c8_i32_412
  let v366 : BitVec 32 := Scalar.addi c0_i32_413 v365
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_414 : BitVec 32 := 4#32
  let v367 : BitVec 32 := Scalar.muli v5 c4_i32_414
  let v368 : BitVec 32 := Scalar.addi v366 v367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v369 : BitVec 32 := Scalar.muli v8 c1_i32_415
  let v370 : BitVec 32 := Scalar.addi v368 v369
  v370.toNat
def k0_dev8 (d0 : Dev nD) : Nat :=
  let c0_i32_478 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_477 : BitVec 32 := 8#32
  let v423 : BitVec 32 := Scalar.muli v9 c8_i32_477
  let v424 : BitVec 32 := Scalar.addi c0_i32_478 v423
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_479 : BitVec 32 := 4#32
  let v425 : BitVec 32 := Scalar.muli v5 c4_i32_479
  let v426 : BitVec 32 := Scalar.addi v424 v425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_480 : BitVec 32 := 1#32
  let v427 : BitVec 32 := Scalar.muli v8 c1_i32_480
  let v428 : BitVec 32 := Scalar.addi v426 v427
  v428.toNat
def k0_dev9 (d0 : Dev nD) : Nat :=
  let c0_i32_544 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_543 : BitVec 32 := 8#32
  let v481 : BitVec 32 := Scalar.muli v9 c8_i32_543
  let v482 : BitVec 32 := Scalar.addi c0_i32_544 v481
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_545 : BitVec 32 := 4#32
  let v483 : BitVec 32 := Scalar.muli v5 c4_i32_545
  let v484 : BitVec 32 := Scalar.addi v482 v483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_546 : BitVec 32 := 1#32
  let v485 : BitVec 32 := Scalar.muli v8 c1_i32_546
  let v486 : BitVec 32 := Scalar.addi v484 v485
  v486.toNat
def k0_dev10 (d0 : Dev nD) : Nat :=
  let c0_i32_609 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_608 : BitVec 32 := 8#32
  let v539 : BitVec 32 := Scalar.muli v9 c8_i32_608
  let v540 : BitVec 32 := Scalar.addi c0_i32_609 v539
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_610 : BitVec 32 := 4#32
  let v541 : BitVec 32 := Scalar.muli v5 c4_i32_610
  let v542 : BitVec 32 := Scalar.addi v540 v541
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_611 : BitVec 32 := 1#32
  let v543 : BitVec 32 := Scalar.muli v8 c1_i32_611
  let v544 : BitVec 32 := Scalar.addi v542 v543
  v544.toNat
def k0_dev11 (d0 : Dev nD) : Nat :=
  let c0_i32_674 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_673 : BitVec 32 := 8#32
  let v597 : BitVec 32 := Scalar.muli v9 c8_i32_673
  let v598 : BitVec 32 := Scalar.addi c0_i32_674 v597
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v599 : BitVec 32 := Scalar.muli v5 c4_i32_675
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_676 : BitVec 32 := 1#32
  let v601 : BitVec 32 := Scalar.muli v8 c1_i32_676
  let v602 : BitVec 32 := Scalar.addi v600 v601
  v602.toNat
def k0_dev12 (d0 : Dev nD) : Nat :=
  let c0_i32_739 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_738 : BitVec 32 := 8#32
  let v655 : BitVec 32 := Scalar.muli v9 c8_i32_738
  let v656 : BitVec 32 := Scalar.addi c0_i32_739 v655
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_740 : BitVec 32 := 4#32
  let v657 : BitVec 32 := Scalar.muli v5 c4_i32_740
  let v658 : BitVec 32 := Scalar.addi v656 v657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_741 : BitVec 32 := 1#32
  let v659 : BitVec 32 := Scalar.muli v8 c1_i32_741
  let v660 : BitVec 32 := Scalar.addi v658 v659
  v660.toNat
def k0_dev13 (d0 : Dev nD) : Nat :=
  let c0_i32_804 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_803 : BitVec 32 := 8#32
  let v713 : BitVec 32 := Scalar.muli v9 c8_i32_803
  let v714 : BitVec 32 := Scalar.addi c0_i32_804 v713
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_805 : BitVec 32 := 4#32
  let v715 : BitVec 32 := Scalar.muli v5 c4_i32_805
  let v716 : BitVec 32 := Scalar.addi v714 v715
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_806 : BitVec 32 := 1#32
  let v717 : BitVec 32 := Scalar.muli v8 c1_i32_806
  let v718 : BitVec 32 := Scalar.addi v716 v717
  v718.toNat
def k0_dev14 (d0 : Dev nD) : Nat :=
  let c0_i32_869 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_868 : BitVec 32 := 8#32
  let v771 : BitVec 32 := Scalar.muli v9 c8_i32_868
  let v772 : BitVec 32 := Scalar.addi c0_i32_869 v771
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_870 : BitVec 32 := 4#32
  let v773 : BitVec 32 := Scalar.muli v5 c4_i32_870
  let v774 : BitVec 32 := Scalar.addi v772 v773
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_871 : BitVec 32 := 1#32
  let v775 : BitVec 32 := Scalar.muli v8 c1_i32_871
  let v776 : BitVec 32 := Scalar.addi v774 v775
  v776.toNat
def k0_dev15 (d0 : Dev nD) : Nat :=
  let c0_i32_934 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_933 : BitVec 32 := 8#32
  let v829 : BitVec 32 := Scalar.muli v9 c8_i32_933
  let v830 : BitVec 32 := Scalar.addi c0_i32_934 v829
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_935 : BitVec 32 := 4#32
  let v831 : BitVec 32 := Scalar.muli v5 c4_i32_935
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_936 : BitVec 32 := 1#32
  let v833 : BitVec 32 := Scalar.muli v8 c1_i32_936
  let v834 : BitVec 32 := Scalar.addi v832 v833
  v834.toNat
def k0_dev16 (d0 : Dev nD) : Nat :=
  let c0_i32_999 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_998 : BitVec 32 := 8#32
  let v887 : BitVec 32 := Scalar.muli v9 c8_i32_998
  let v888 : BitVec 32 := Scalar.addi c0_i32_999 v887
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1000 : BitVec 32 := 4#32
  let v889 : BitVec 32 := Scalar.muli v5 c4_i32_1000
  let v890 : BitVec 32 := Scalar.addi v888 v889
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1001 : BitVec 32 := 1#32
  let v891 : BitVec 32 := Scalar.muli v8 c1_i32_1001
  let v892 : BitVec 32 := Scalar.addi v890 v891
  v892.toNat
def k0_dev17 (d0 : Dev nD) : Nat :=
  let c0_i32_1047 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1046 : BitVec 32 := 8#32
  let v933 : BitVec 32 := Scalar.muli v9 c8_i32_1046
  let v934 : BitVec 32 := Scalar.addi c0_i32_1047 v933
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1048 : BitVec 32 := 4#32
  let v935 : BitVec 32 := Scalar.muli v5 c4_i32_1048
  let v936 : BitVec 32 := Scalar.addi v934 v935
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1049 : BitVec 32 := 1#32
  let v937 : BitVec 32 := Scalar.muli v8 c1_i32_1049
  let v938 : BitVec 32 := Scalar.addi v936 v937
  v938.toNat
def k0_dev18 (d0 : Dev nD) : Nat :=
  let c0_i32_1056 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1055 : BitVec 32 := 8#32
  let v947 : BitVec 32 := Scalar.muli v9 c8_i32_1055
  let v948 : BitVec 32 := Scalar.addi c0_i32_1056 v947
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1057 : BitVec 32 := 4#32
  let v949 : BitVec 32 := Scalar.muli v5 c4_i32_1057
  let v950 : BitVec 32 := Scalar.addi v948 v949
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1058 : BitVec 32 := 1#32
  let v951 : BitVec 32 := Scalar.muli v8 c1_i32_1058
  let v952 : BitVec 32 := Scalar.addi v950 v951
  v952.toNat
abbrev stage0_0 : Fin 1 → Memref sig .tc .vmem S16x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩
abbrev S32x256x1 : Shape := ⟨3, ![32, 256, 1]⟩
abbrev S32x256x32x16x128 : Shape := ⟨5, ![32, 256, 32, 16, 128]⟩
abbrev S32x8192x16x128 : Shape := ⟨4, ![32, 8192, 16, 128]⟩
abbrev S32x16x1x8192 : Shape := ⟨4, ![32, 16, 1, 8192]⟩
abbrev S32x256x32 : Shape := ⟨3, ![32, 256, 32]⟩
abbrev S32x8192 : Shape := ⟨2, ![32, 8192]⟩
abbrev S32x1x1x8192 : Shape := ⟨4, ![32, 1, 1, 8192]⟩
abbrev S32x16x1 : Shape := ⟨3, ![32, 16, 1]⟩
abbrev S32x16x1x1 : Shape := ⟨4, ![32, 16, 1, 1]⟩
abbrev S32x16x128x1 : Shape := ⟨4, ![32, 16, 128, 1]⟩

abbrev nBuf : Space → Nat
  | .hbm => 56
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S512x32x16x128, .f32⟩
  | .hbm, ⟨2, _⟩ => ⟨S512x32x16x128, .f32⟩
  | .hbm, ⟨3, _⟩ => ⟨S32x256, .i32⟩
  | .hbm, ⟨4, _⟩ => ⟨S32, .i32⟩
  | .hbm, ⟨5, _⟩ => ⟨S256, .i32⟩
  | .hbm, ⟨6, _⟩ => ⟨S1x256, .i32⟩
  | .hbm, ⟨7, _⟩ => ⟨S32x1, .i32⟩
  | .hbm, ⟨8, _⟩ => ⟨S32x256, .i32⟩
  | .hbm, ⟨9, _⟩ => ⟨S32x256, .i32⟩
  | .hbm, ⟨10, _⟩ => ⟨S32x256, .i1⟩
  | .hbm, ⟨11, _⟩ => ⟨S_, .i32⟩
  | .hbm, ⟨12, _⟩ => ⟨S32x256, .i32⟩
  | .hbm, ⟨13, _⟩ => ⟨S32x256, .i1⟩
  | .hbm, ⟨14, _⟩ => ⟨S_, .i32⟩
  | .hbm, ⟨15, _⟩ => ⟨S32x256, .i32⟩
  | .hbm, ⟨16, _⟩ => ⟨S32x256, .i32⟩
  | .hbm, ⟨17, _⟩ => ⟨S32x256, .i32⟩
  | .hbm, ⟨18, _⟩ => ⟨S32x256x1, .i32⟩
  | .hbm, ⟨19, _⟩ => ⟨S32x256x32x16x128, .f32⟩
  | .hbm, ⟨20, _⟩ => ⟨S32x8192x16x128, .f32⟩
  | .hbm, ⟨21, _⟩ => ⟨S_, .i32⟩
  | .hbm, ⟨22, _⟩ => ⟨S32x256, .i32⟩
  | .hbm, ⟨23, _⟩ => ⟨S32x256, .i1⟩
  | .hbm, ⟨24, _⟩ => ⟨S_, .i32⟩
  | .hbm, ⟨25, _⟩ => ⟨S32x256, .i32⟩
  | .hbm, ⟨26, _⟩ => ⟨S32x256, .i32⟩
  | .hbm, ⟨27, _⟩ => ⟨S32x256, .i32⟩
  | .hbm, ⟨28, _⟩ => ⟨S32x256x1, .i32⟩
  | .hbm, ⟨29, _⟩ => ⟨S32x256x32x16x128, .f32⟩
  | .hbm, ⟨30, _⟩ => ⟨S32x8192x16x128, .f32⟩
  | .hbm, ⟨31, _⟩ => ⟨S32x16x1x8192, .f32⟩
  | .hbm, ⟨32, _⟩ => ⟨S_, .f32⟩
  | .hbm, ⟨33, _⟩ => ⟨S32x16x1x8192, .f32⟩
  | .hbm, ⟨34, _⟩ => ⟨S32x16x1x8192, .f32⟩
  | .hbm, ⟨35, _⟩ => ⟨S32x256x32, .i1⟩
  | .hbm, ⟨36, _⟩ => ⟨S32x8192, .i1⟩
  | .hbm, ⟨37, _⟩ => ⟨S32x1x1x8192, .i1⟩
  | .hbm, ⟨38, _⟩ => ⟨S_, .f32⟩
  | .hbm, ⟨39, _⟩ => ⟨S_, .f32⟩
  | .hbm, ⟨40, _⟩ => ⟨S32x16x1x8192, .i1⟩
  | .hbm, ⟨41, _⟩ => ⟨S32x16x1x8192, .f32⟩
  | .hbm, ⟨42, _⟩ => ⟨S32x16x1x8192, .f32⟩
  | .hbm, ⟨43, _⟩ => ⟨S_, .f32⟩
  | .hbm, ⟨44, _⟩ => ⟨S32x16x1, .f32⟩
  | .hbm, ⟨45, _⟩ => ⟨S32x16x1x1, .f32⟩
  | .hbm, ⟨46, _⟩ => ⟨S32x16x1x8192, .f32⟩
  | .hbm, ⟨47, _⟩ => ⟨S32x16x1x8192, .f32⟩
  | .hbm, ⟨48, _⟩ => ⟨S32x16x1x8192, .f32⟩
  | .hbm, ⟨49, _⟩ => ⟨S_, .f32⟩
  | .hbm, ⟨50, _⟩ => ⟨S32x16x1, .f32⟩
  | .hbm, ⟨51, _⟩ => ⟨S32x16x1x1, .f32⟩
  | .hbm, ⟨52, _⟩ => ⟨S32x16x1x8192, .f32⟩
  | .hbm, ⟨53, _⟩ => ⟨S32x16x1x8192, .f32⟩
  | .hbm, ⟨54, _⟩ => ⟨S32x16x128x1, .f32⟩
  | .hbm, ⟨55, _⟩ => ⟨S32x1x16x128, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Prog.lean ====
module

public import proofs.«01_k».proof.Proof.Gen.KernelIdeal
public import proofs.«01_k».proof.Proof.Gen.KernelIdeal.Skeleton

@[expose] public section

noncomputable section

namespace Cert.KernelIdeal.Talk

open Idealize.ShloMosaic Idealize.SL.Sem Cert.KernelIdeal.Gen

variable {F : FTy → Type} [FloatOps F]

/-! ## The views of a head -/

/-- Head `h` of a `16 × 32 × 128` buffer. -/
abbrev rAcc (h : Fin 16) : Rect S16x32x128 :=
  Rect.unit (s := S16x32x128) ![h.val, 0, 0] S1x32x128.size ((by decide : ∀ h : Fin 16,
    ∀ a, (![h.val, 0, 0] : Fin 3 → Nat) a + S1x32x128.size a ≤ S16x32x128.size a) h)

/-- Head `h` of the pages. -/
abbrev rPage (h : Fin 16) : Rect S256x32x16x128 :=
  Rect.unit (s := S256x32x16x128) ![0, 0, h.val, 0] S256x32x1x128.size ((by decide : ∀ h : Fin 16,
    ∀ a, (![0, 0, h.val, 0] : Fin 4 → Nat) a + S256x32x1x128.size a ≤ S256x32x16x128.size a) h)

/-- Slot `s` of a two-slot buffer of one head's pages. -/
abbrev rSlot (s : Fin 2) : Rect S2x256x32x128 :=
  Rect.unit (s := S2x256x32x128) ![s.val, 0, 0, 0] S1x256x32x128.size ((by decide : ∀ s : Fin 2,
    ∀ a, (![s.val, 0, 0, 0] : Fin 4 → Nat) a + S1x256x32x128.size a ≤ S2x256x32x128.size a) s)

/-- Column `h` of the sums of weights. -/
abbrev rCol (h : Fin 16) : Rect S32x16 :=
  Rect.unit (s := S32x16) ![0, h.val] S32x1.size ((by decide : ∀ h : Fin 16,
    ∀ a, (![0, h.val] : Fin 2 → Nat) a + S32x1.size a ≤ S32x16.size a) h)

/-- Head `h` of the result. -/
abbrev rOut (h : Fin 16) : Rect S32x16x128 :=
  Rect.unit (s := S32x16x128) ![0, h.val, 0] S32x1x128.size ((by decide : ∀ h : Fin 16,
    ∀ a, (![0, h.val, 0] : Fin 3 → Nat) a + S32x1x128.size a ≤ S32x16x128.size a) h)

/-- The slot head `h` is copied into. -/
abbrev sl (h : Fin 16) : Fin 2 := ⟨h.val % 2, Nat.mod_lt _ (by decide)⟩

/-- Head `h` of an accumulator, the axis of heads dropped. -/
abbrev accV (m : Memref sig .tc .vmem S16x32x128 .f32) (h : Fin 16) :
    Memref sig .tc .vmem S32x128 .f32 :=
  (m.slice (rAcc h) (fun _ => rfl)).squeeze S32x128 squeezes_S1x32x128_S32x128

/-- Head `h` of the pages, the axis of heads dropped. -/
abbrev pageV (m : Memref sig .tc .hbm S256x32x16x128 .f32) (h : Fin 16) :
    Memref sig .tc .hbm S256x32x128 .f32 :=
  (m.slice (rPage h) (fun _ => rfl)).squeeze S256x32x128 squeezes_S256x32x1x128_S256x32x128

/-- Slot `s` of a two-slot buffer, the axis of slots dropped. -/
abbrev slotV (m : Memref sig .tc .vmem S2x256x32x128 .f32) (s : Fin 2) :
    Memref sig .tc .vmem S256x32x128 .f32 :=
  (m.slice (rSlot s) (fun _ => rfl)).squeeze S256x32x128 squeezes_S1x256x32x128_S256x32x128

/-- Counter `s` of a pair. -/
abbrev sem2 (a : DmaSems sig S2) (s : Fin 2) : DmaSem sig :=
  ((a.slice (Rect.unit (s := S2) ![s.val] S1.size ((by decide : ∀ s : Fin 2,
    ∀ a, (![s.val] : Fin 1 → Nat) a + S1.size a ≤ S2.size a) s))).squeeze S_ squeezes_S1_S_).sem

/-- Counter `i` of seventeen. -/
abbrev sem17 (a : DmaSems sig S17) (i : Fin 17) : DmaSem sig :=
  ((a.slice (Rect.unit (s := S17) ![i.val] S1.size ((by decide : ∀ i : Fin 17,
    ∀ a, (![i.val] : Fin 1 → Nat) a + S1.size a ≤ S17.size a) i))).squeeze S_ squeezes_S1_S_).sem

/-! ## What a head computes -/

/-- The weights of a head: the page counts times the exponentials of the scores. -/
def wgt (w : Vec F S32x8192 .f32) (q : Vec F S1x32x128 .f32) (k : Vec F S1x256x32x128 .f32) :
    FVec F S32x8192 .f32 := k0_pay2 (k0_pay1 w) q k

/-- The sum of the weights of a head, row by row. -/
def lOf (w : Vec F S32x8192 .f32) (q : Vec F S1x32x128 .f32) (k : Vec F S1x256x32x128 .f32) :
    FVec F S32x1 .f32 := k0_pay3 (k0_pay1 w) q k

/-- The weighted sum of a head's values. -/
def accOf (w : Vec F S32x8192 .f32) (q : Vec F S1x32x128 .f32) (k v : Vec F S1x256x32x128 .f32) :
    FVec F S1x32x128 .f32 := k0_pay4 (k0_pay1 w) q k v

/-- A head of the result: the two devices' sums over the two devices' weights. -/
def outOf (h : Fin 16) (l rl : Vec F S32x16 .f32) (a ra : Vec F S1x32x128 .f32) :
    FVec F S32x1x128 .f32 :=
  shapeCast S32x1x128 (divf (addf (shapeCast S32x128 a shapeCasts_S1x32x128_S32x128)
      (shapeCast S32x128 ra shapeCasts_S1x32x128_S32x128))
    (broadcastTo S32x128 (extractStridedSlice S32x1 ![0, h.val] (addf l rl)
      ((by decide : ∀ h : Fin 16, S32x16.Slices ![0, h.val] S32x1) h)) broadcasts_S32x1_S32x128))
    shapeCasts_S32x128_S32x1x128

/-! ## The kernel body, head by head -/

/-- The program type of the body. -/
abbrev PT (F : FTy → Type) [FloatOps F] := Prog (TpuEff nD τ sig (Elt F) Λ₀ .tc)

/-- `f i, f (i+1), …`, `n` of them. -/
def loopUp (f : Fin 16 → PT F PUnit) : (n i : ℕ) → i + n ≤ 16 → PT F PUnit
  | 0, _, _ => pure ⟨⟩
  | n + 1, i, hi => do
      f ⟨i, by omega⟩
      loopUp f n (i + 1) (by omega)

section body

variable (qM : Memref sig .tc .vmem S16x32x128 .f32) (wM : Memref sig .tc .vmem S32x8192 .f32)
  (KM VM : Memref sig .tc .hbm S256x32x16x128 .f32) (oM : Memref sig .tc .vmem S32x16x128 .f32)
  (aM : Memref sig .tc .vmem S16x32x128 .f32) (lM : Memref sig .tc .vmem S32x16 .f32)
  (rM : Memref sig .tc .vmem S16x32x128 .f32) (rlM : Memref sig .tc .vmem S32x16 .f32)
  (kM vM : Memref sig .tc .vmem S2x256x32x128 .f32)
  (ks vs : DmaSems sig S2) (ss rs : DmaSems sig S17)

/-- The start of the copy of head `h` of one of the two page arrays into its slot. -/
def fetchP (PM : Memref sig .tc .hbm S256x32x16x128 .f32)
    (bM : Memref sig .tc .vmem S2x256x32x128 .f32) (bs : DmaSems sig S2) (h : Fin 16) : PT F PUnit :=
  Prog.lift (.enqueueDma (pageV PM h) (.here (slotV bM (sl h))) (.dma (sem2 bs (sl h)))
    ((View.wordExact_bits rfl).reshape _ _) ((View.wordExact_bits rfl).reshape _ _)
    ⟨Or.inl rfl, trivial⟩)

/-- The wait for the copy of head `h`. -/
def fetchedP (PM : Memref sig .tc .hbm S256x32x16x128 .f32)
    (bM : Memref sig .tc .vmem S2x256x32x128 .f32) (bs : DmaSems sig S2) (h : Fin 16) : PT F PUnit :=
  Prog.lift (.waitDma2 (sem2 bs (sl h)) (pageV PM h) (slotV bM (sl h))
    ((View.wordExact_bits rfl).reshape _ _) ((View.wordExact_bits rfl).reshape _ _))

/-- Head `h` once its pages are on the way: its weights, their sum, the weighted sum of the values,
    and the transfer of the latter to the partner. -/
def headP (w : Vec F S32x8192 .f32) (d0 : Dev nD) (h : Fin 16) : PT F PUnit := do
  fetchedP (F := F) KM kM ks h
  let q : Vec F S1x32x128 .f32 ← Prog.lift (.load qM (rAcc h).toLoadRect (View.loadsAt_vmem h_S1x32x128))
  let k : Vec F S1x256x32x128 .f32 ← Prog.lift (.load kM (rSlot (sl h)).toLoadRect (View.loadsAt_vmem h_S1x256x32x128))
  let _ : Vec F S32x1 .f32 ← Prog.lift (.load lM (rCol h).toLoadRect (View.loadsAt_vmem h_S32x1))
  Prog.lift (.store lM (rCol h) (lOf w q k) Finset.univ (View.stores_vmem_bits_univ h_S32x1 rfl) (.inl rfl))
  fetchedP (F := F) VM vM vs h
  let v : Vec F S1x256x32x128 .f32 ← Prog.lift (.load vM (rSlot (sl h)).toLoadRect (View.loadsAt_vmem h_S1x256x32x128))
  let _ : Vec F S1x32x128 .f32 ← Prog.lift (.load aM (rAcc h).toLoadRect (View.loadsAt_vmem h_S1x32x128))
  Prog.lift (.store aM (rAcc h) (accOf w q k v) Finset.univ (View.stores_vmem_bits_univ h_S1x32x128 rfl) (.inl rfl))
  Prog.lift (.enqueueDma (accV aM h)
    (.remote (Dev.tc (⟨k0_dev1 d0, k0_dev1_lt d0⟩ : Dev nD)) (accV rM h) (.dma (sem17 ss h.castSucc)))
    (.dma (sem17 rs h.castSucc))
    ((View.wordExact_bits rfl).reshape _ _) ((View.wordExact_bits rfl).reshape _ _)
    ⟨⟨rfl, Or.inl rfl⟩, trivial⟩)

/-- Head `h` but the last: the next head's pages are fetched first. -/
def stepP (w : Vec F S32x8192 .f32) (d0 : Dev nD) (h : Fin 16) : PT F PUnit := do
  fetchP (F := F) KM kM ks (h + 1)
  fetchP (F := F) VM vM vs (h + 1)
  headP (F := F) qM KM VM aM lM rM kM vM ks vs ss rs w d0 h

/-- The waits for head `h`'s transfer to the partner and from the partner. -/
def joinP (h : Fin 16) : PT F PUnit := do
  Prog.lift (.waitDma2 (sem17 ss h.castSucc) (accV rM h) (accV aM h)
    ((View.wordExact_bits rfl).reshape _ _) ((View.wordExact_bits rfl).reshape _ _))
  Prog.lift (.waitDma2 (sem17 rs h.castSucc) (accV aM h) (accV rM h)
    ((View.wordExact_bits rfl).reshape _ _) ((View.wordExact_bits rfl).reshape _ _))

/-- Head `h` of the result. -/
def outP (l rl : Vec F S32x16 .f32) (h : Fin 16) : PT F PUnit := do
  let a : Vec F S1x32x128 .f32 ← Prog.lift (.load aM (rAcc h).toLoadRect (View.loadsAt_vmem h_S1x32x128))
  let ra : Vec F S1x32x128 .f32 ← Prog.lift (.load rM (rAcc h).toLoadRect (View.loadsAt_vmem h_S1x32x128))
  let _ : Vec F S32x1x128 .f32 ← Prog.lift (.load oM (rOut h).toLoadRect (View.loadsAt_vmem h_S32x1x128))
  Prog.lift (.store oM (rOut h) (outOf h l rl a ra) Finset.univ (View.stores_vmem_bits_univ h_S32x1x128 rfl) (.inl rfl))

/-- The body of the kernel. -/
def bodyP (hl : lM.IsWhole) (hrl : rlM.IsWhole) : PT F PUnit := do
  let d0 : Dev nD ← Prog.lift .deviceId
  fetchP (F := F) KM kM ks 0
  fetchP (F := F) VM vM vs 0
  semSignalWord (⟨k0_dev1 d0, k0_dev1_lt d0⟩ : Dev nD) (SemArray.scalar (sig.barrier 0 rfl) : Sems sig S_).sem 1#32
  semWaitWord (SemArray.scalar (sig.barrier 0 rfl) : Sems sig S_).sem 1#32
  let w : Vec F S32x8192 .f32 ← Prog.lift (.load wM (Rect.unit (s := S32x8192) ![0, 0] S32x8192.size inb_S32x8192_S32x8192_0_0).toLoadRect (View.loadsAt_vmem h_S32x8192))
  loopUp (stepP (F := F) qM KM VM aM lM rM kM vM ks vs ss rs w d0) 15 0 (by decide)
  headP (F := F) qM KM VM aM lM rM kM vM ks vs ss rs w d0 15
  Prog.lift (.enqueueDma lM (.remote (Dev.tc (⟨k0_dev1 d0, k0_dev1_lt d0⟩ : Dev nD)) rlM (.dma (sem17 ss 16)))
    (.dma (sem17 rs 16)) hl.wordExact hrl.wordExact ⟨⟨rfl, Or.inl rfl⟩, trivial⟩)
  loopUp (joinP (F := F) aM rM ss rs) 16 0 (by decide)
  Prog.lift (.waitDma2 (sem17 ss 16) rlM lM hrl.wordExact hl.wordExact)
  Prog.lift (.waitDma2 (sem17 rs 16) lM rlM hl.wordExact hrl.wordExact)
  let l : Vec F S32x16 .f32 ← Prog.lift (.load lM (Rect.unit (s := S32x16) ![0, 0] S32x16.size inb_S32x16_S32x16_0_0).toLoadRect (View.loadsAt_vmem h_S32x16))
  let rl : Vec F S32x16 .f32 ← Prog.lift (.load rlM (Rect.unit (s := S32x16) ![0, 0] S32x16.size inb_S32x16_S32x16_0_0).toLoadRect (View.loadsAt_vmem h_S32x16))
  loopUp (outP (F := F) oM aM rM l rl) 16 0 (by decide)

/-- Two programs that start with one effect and go on alike are one. -/
theorem op_congr {α β : Type} {e e' : TpuEff nD τ sig (Elt F) Λ₀ .tc β} {k k' : β → PT F α}
    (he : e = e') (hk : ∀ x, k x = k' x) : Prog.op e k = Prog.op e' k' := by
  subst he
  exact congrArg _ (funext hk)

set_option maxRecDepth 65536 in
set_option maxHeartbeats 0 in
/-- The printed body is the body head by head. -/
theorem body_eq (h0 : qM.IsWhole) (h1 : wM.IsWhole) (h2 : KM.IsWhole) (h3 : VM.IsWhole)
    (h4 : oM.IsWhole) (h5 : aM.IsWhole) (hl : lM.IsWhole) (h7 : rM.IsWhole) (hrl : rlM.IsWhole)
    (h9 : kM.IsWhole) (h10 : vM.IsWhole) :
    cc0__fused_body (F := F) qM h0 wM h1 KM h2 VM h3 oM h4 aM h5 lM hl rM h7 rlM hrl kM h9 vM h10 ks vs ss rs
      = bodyP (F := F) qM wM KM VM oM aM lM rM rlM kM vM ks vs ss rs hl hrl := by
  repeat
    conv_lhs => whnf
    conv_rhs => whnf
    refine op_congr rfl fun _ => ?_
  rfl

end body

end Cert.KernelIdeal.Talk
-- ==== Proof.Owns.lean ====
module

public import proofs.«01_k».proof.Proof.Prog
public import Idealize.ShloMosaic.Lib.Rounds
public import Idealize.ShloMosaic.Lib.Memref
public import Idealize.ShloMosaic.Lib.StableHlo
public import Idealize.ShloMosaic.Lib.Pipeline.Regions
public import Idealize.ShloMosaic.Lib.Pipeline.Kit
public import Idealize.ShloMosaic.Lib.Pipeline.RegionTalk
public import Idealize.ShloMosaic.Lib.SparseCore.ProtocolKit
public import Idealize.ShloMosaic.Lib.Tactic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The resource algebra: the pipeline library's copy and the protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

/-! ## Owning a part of a buffer -/

section parts

variable {sp : Space} {s s' : Shape} {e : EltTy}

/-- Device `c` owns the memref whole at contents `X`. -/
abbrev own1 (c : Dev nD) (m : Memref sig .tc sp s e) (X : s.Idx → Elt F e) : sProp 𝕄 :=
  owns (c : Thread nD τ) m fullShare X

/-- A memref with its unit axes dropped holds the same elements. -/
theorem owns_squeeze (c : Dev nD) (m : Memref sig .tc sp s e) (h : s.Squeezes s') (q : PosShare TreeShare)
    (X : s.Idx → Elt F e) :
    (owns (c : Thread nD τ) m q X : sProp 𝕄)
      = owns (c : Thread nD τ) (m.squeeze s' h) q (fun j => X (Shape.reshapeEquiv h.numel_eq j)) := by
  have key (f : m.view.ty.Contents (Elt F)) :
      (m.squeeze s' h).view.read (Elt F) f = (fun j => X (Shape.reshapeEquiv h.numel_eq j)) ↔ m.view.read (Elt F) f = X := by
    constructor
    · intro hf
      funext i
      have := congrFun hf ((Shape.reshapeEquiv h.numel_eq).symm i)
      dsimp only at this
      rw [Equiv.apply_symm_apply] at this
      rw [← this]
      show m.view.read (Elt F) f i = m.view.read (Elt F) f (Shape.reshapeEquiv h.numel_eq ((Shape.reshapeEquiv h.numel_eq).symm i))
      rw [Equiv.apply_symm_apply]
    · rintro rfl; rfl
  have hset (f : m.view.ty.Contents (Elt F)) : (m.view.loc (c : Thread nD τ) ↦[(m.squeeze s' h).view.set]{q} f : sProp 𝕄)
      = m.view.loc (c : Thread nD τ) ↦[m.view.set]{q} f := by
    rw [show (m.squeeze s' h).view.set = m.view.set from View.set_reshape _ _]
  have h₁ : (owns (c : Thread nD τ) m q X : sProp 𝕄)
      ⊢ owns (c : Thread nD τ) (m.squeeze s' h) q (fun j => X (Shape.reshapeEquiv h.numel_eq j)) := by
    unfold owns
    iintro ⟨%f, %hf, H⟩
    iexists f
    isplitr; · ipureintro; exact (key f).mpr hf
    iapply (Entails.of_eq (hset f).symm) $$ H
  have h₂ : (owns (c : Thread nD τ) (m.squeeze s' h) q (fun j => X (Shape.reshapeEquiv h.numel_eq j)) : sProp 𝕄)
      ⊢ owns (c : Thread nD τ) m q X := by
    unfold owns
    iintro ⟨%f, %hf, H⟩
    iexists f
    isplitr; · ipureintro; exact (key f).mp hf
    iapply (Entails.of_eq (hset f)) $$ H
  exact BI.equiv_iff.mp ⟨h₁, h₂⟩

variable (c : Dev nD) {α : Type}

/-- A load of a part that is owned by itself. -/
theorem load_part {Q : α → sProp 𝕄} {cs : CoreSpace} {m : Memref sig .tc cs s e} {r : Rect s} {hr : ∀ a, r.stride a = 1}
    {hl : m.view.LoadsAt r} {k : (r.shape.Idx → Elt F e) → PT F α} (X : r.shape.Idx → Elt F e) :
    (own1 c (m.slice r hr) X : sProp 𝕄)
      ⊢ iprop((own1 c (m.slice r hr) X -∗ wp frame (wpE (defs₀ (F := F)) 𝒱₀ c none) Set.univ (k X) Q)
        -∗ wp frame (wpE (defs₀ (F := F)) 𝒱₀ c none) Set.univ (.op (.load m r hl) k) Q) := by
  unfold own1 owns
  iintro ⟨%f, %hf, H⟩ Hk
  iapply (wp_load_rect 𝒱₀ (c : Thread nD τ) none Set.univ (m := m) (r := r) (hl := hl) (k := k) (S := (m.access r).set)
    (q := fullShare) (f := f) (Finset.Subset.refl _)) $$ H
  iintro H
  rw [show (m.access r).read (Elt F) f = X from hf]
  iapply Hk
  iexists f
  isplitr; · ipureintro; exact hf
  iexact H

/-- A load of a part of a memref owned whole. -/
theorem load_rect {Q : α → sProp 𝕄} {cs : CoreSpace} {m : Memref sig .tc cs s e} {r : Rect s}
    {hl : m.view.LoadsAt r} {k : (r.shape.Idx → Elt F e) → PT F α} {q : PosShare TreeShare} (X : s.Idx → Elt F e) :
    owns (c : Thread nD τ) m q X
      ⊢ iprop((owns (c : Thread nD τ) m q X -∗ wp frame (wpE (defs₀ (F := F)) 𝒱₀ c none) Set.univ (k fun j => X (r.emb j)) Q)
        -∗ wp frame (wpE (defs₀ (F := F)) 𝒱₀ c none) Set.univ (.op (.load m r hl) k) Q) := by
  unfold owns
  iintro ⟨%f, %hf, H⟩ Hk
  iapply (wp_load_rect 𝒱₀ (c : Thread nD τ) none Set.univ (m := m) (r := r) (hl := hl) (k := k) (S := m.view.set)
    (q := q) (f := f) (View.set_slice_subset _ _)) $$ H
  iintro H
  rw [show (m.access r).read (Elt F) f = (fun j => X (r.emb j)) from by rw [← hf]; rfl]
  iapply Hk
  iexists f
  isplitr; · ipureintro; exact hf
  iexact H

/-- A store of a part that is owned by itself. -/
theorem store_part {Q : α → sProp 𝕄} {cs : CoreSpace} {m : Memref sig .tc cs s e} {r : Rect s} {hr : ∀ a, r.stride a = 1}
    {w : r.shape.Idx → Elt F e} {hx : (m.access r).Stores Finset.univ}
    {hm : (Finset.univ : Finset r.shape.Idx) = Finset.univ ∨ ∀ a, r.stride a = 1} {k : PUnit → PT F α} (X : r.shape.Idx → Elt F e) :
    (own1 c (m.slice r hr) X : sProp 𝕄)
      ⊢ iprop((own1 c (m.slice r hr) w -∗ wp frame (wpE (defs₀ (F := F)) 𝒱₀ c none) Set.univ (k ⟨⟩) Q)
        -∗ wp frame (wpE (defs₀ (F := F)) 𝒱₀ c none) Set.univ (.op (.store m r w Finset.univ hx hm) k) Q) := by
  unfold own1 owns
  iintro ⟨%f, %hf, H⟩ Hk
  iapply (wp_store 𝒱₀ (c : Thread nD τ) none Set.univ (m := m) (r := r) (w := w) (Mk := Finset.univ) (k := k)
    (S := (m.access r).set) (f := f) (hm := hm) (hx := hx) (Finset.Subset.refl _)) $$ H
  iintro H
  iapply Hk
  iexists ((m.access r).write (Elt F) f w Finset.univ)
  isplitr; · ipureintro; exact View.read_write_univ _ _
  iexact H

/-- A copy within the device, both ends owned: it pays one duty of its counter's round with both ends. -/
theorem copy_own (sched : Rounds.Schedule (GSem nD τ sig) Unit 𝕄) {Q : α → sProp 𝕄} {sp' : Space}
    {src : Memref sig .tc sp s e} {dst : Memref sig .tc sp' s e} {sem : DmaSem sig}
    {hsrc : src.view.WordExact} {hdst : dst.view.WordExact} {hsem : DmaTarget.Typed (nD := nD) (τ := τ) (p := .tc) sp (.dma sem) (.here dst)}
    {k : PUnit → PT F α} {r : ℕ} {κ : ℕ} (X Y : s.Idx → Elt F e)
    (hd : () ∈ sched.duties ((c : Thread nD τ), .dma sem) r) (N : ℕ) (hN : dst.view.dmaCredit = N)
    (hk : sched.amount ((c : Thread nD τ), .dma sem) r () = N)
    (hpay : iprop(own1 c dst X ∗ own1 c src X) ⊢ sched.payload ((c : Thread nD τ), .dma sem) r ()) :
    iprop(cellInv ER sched κ ((c : Thread nD τ), .dma sem) ∗ own1 c src X ∗ own1 c dst Y
        ∗ dutyTok ER ((c : Thread nD τ), .dma sem) r () ∗ reached ER ((c : Thread nD τ), .dma sem) r)
      ⊢ iprop((cred (tallyAt ((c : Thread nD τ), .dma sem) () N) -∗ wp frame (wpE (defs₀ (F := F)) 𝒱₀ c none) Set.univ (k ⟨⟩) Q)
          -∗ wp frame (wpE (defs₀ (F := F)) 𝒱₀ c none) Set.univ (.op (.enqueueDma src (.here dst) (.dma sem) hsrc hdst hsem) k) Q) := by
  iintro ⟨#HI, Hs, Hd, Ht, #Hr⟩ Hk
  unfold own1 owns
  icases Hs with ⟨%fs, %hfs, Hs⟩
  icases Hd with ⟨%fd, %hfd, Hd⟩
  subst hfs
  have hp : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ sched.payload ((c : Thread nD τ), .dma sem) r () :=
    ((sep_mono_left (owns_intro (c : Thread nD τ) dst fullShare _)).trans (sep_mono_right (owns_intro (c : Thread nD τ) src fullShare _))).trans
      (by rw [View.read_write_univ]; exact hpay)
  iapply (Rounds.wp_copy_pointsTo 𝒱₀ ER sched (c : Thread nD τ) none (src := src) (dst := dst) (sem := .dma sem) (q := fullShare)
      (fs := fs) (fd := fd) (r := r) (d := ()) (κ := κ) hd () N hN hk hp) $$ [Hs Hd Ht]
  · isplitr; · iexact HI
    isplitl [Hs]; · iexact Hs
    isplitl [Hd]; · iexact Hd
    isplitl [Ht]; · iexact Ht
    iexact Hr
  iexact Hk

/-- A transfer to another device, both ends owned: it pays the sender's counter with the source back
    and the other device's counter with the destination at the source's contents. -/
theorem send_own (sched : Rounds.Schedule (GSem nD τ sig) Unit 𝕄) {Q : α → sProp 𝕄} {sp' : Space} (c' : Dev nD)
    {src : Memref sig .tc sp s e} {dst : Memref sig .tc sp' s e} {sS sR : DmaSem sig}
    {hsc : dst.view.ref.isScScratch = false}
    {hsrc : src.view.WordExact} {hdst : dst.view.WordExact}
    {hsem : DmaTarget.Typed (nD := nD) (τ := τ) (p := .tc) sp (.dma sR) (.remote (c' : Thread nD τ) dst (.dma sS) hsc)}
    {k : PUnit → PT F α} {κ₁ κ₂ : ℕ} (X Y : s.Idx → Elt F e)
    (hd₁ : () ∈ sched.duties ((c : Thread nD τ), .dma sS) 0) (hd₂ : () ∈ sched.duties ((c' : Thread nD τ), .dma sR) 0)
    (N : ℕ) (hN : dst.view.dmaCredit = N)
    (hk₁ : sched.amount ((c : Thread nD τ), .dma sS) 0 () = N) (hk₂ : sched.amount ((c' : Thread nD τ), .dma sR) 0 () = N)
    {O₀ : CellTallies nD τ sig Unit} (O : CellTallies nD τ sig Unit)
    (hO : O₀ = O + tallyAt ((c' : Thread nD τ), .dma sR) () N) {W : Waits sig Unit}
    (hpay₁ : own1 c src X ⊢ sched.payload ((c : Thread nD τ), .dma sS) 0 ())
    (hpay₂ : own1 c' dst X ⊢ sched.payload ((c' : Thread nD τ), .dma sR) 0 ()) (hr : τ.routes (c : Thread nD τ) (c' : Thread nD τ) = true := by routes) :
    iprop(cellInv ER sched κ₁ ((c : Thread nD τ), .dma sS) ∗ cellInv ER sched κ₂ ((c' : Thread nD τ), .dma sR)
        ∗ own1 c src X ∗ own1 c' dst Y ∗ owes (c : Thread nD τ) O₀ W
        ∗ dutyTok ER ((c : Thread nD τ), .dma sS) 0 () ∗ reached ER ((c : Thread nD τ), .dma sS) 0
        ∗ dutyTok ER ((c' : Thread nD τ), .dma sR) 0 () ∗ reached ER ((c' : Thread nD τ), .dma sR) 0)
      ⊢ iprop(((cred (tallyAt ((c : Thread nD τ), .dma sS) () N) ∗ owes (c : Thread nD τ) O W)
            -∗ wp frame (wpE (defs₀ (F := F)) 𝒱₀ c none) Set.univ (k ⟨⟩) Q)
          -∗ wp frame (wpE (defs₀ (F := F)) 𝒱₀ c none) Set.univ
            (.op (.enqueueDma src (.remote (c' : Thread nD τ) dst (.dma sS) hsc) (.dma sR) hsrc hdst hsem) k) Q) := by
  iintro ⟨#HI₁, #HI₂, Hs, Hd, HO, Ht₁, #Hr₁, Ht₂, #Hr₂⟩ Hk
  unfold own1 owns
  icases Hs with ⟨%fs, %hfs, Hs⟩
  icases Hd with ⟨%fd, %hfd, Hd⟩
  subst hfs
  have hp₁ : (src.view.loc (c : Thread nD τ) ↦[src.view.set]{fullShare} fs) ⊢ sched.payload ((c : Thread nD τ), .dma sS) 0 () :=
    (owns_intro (c : Thread nD τ) src fullShare _).trans hpay₁
  have hp₂ : (dst.view.loc (c' : Thread nD τ) ↦[dst.view.set]{fullShare} (dst.view.write (Elt F) fd (src.view.read (Elt F) fs) Finset.univ))
      ⊢ sched.payload ((c' : Thread nD τ), .dma sR) 0 () :=
    (owns_intro (c' : Thread nD τ) dst fullShare _).trans (by rw [View.read_write_univ]; exact hpay₂)
  iapply (Rounds.wp_send_pointsTo 𝒱₀ ER sched (c : Thread nD τ) none (c' := (c' : Thread nD τ)) (src := src) (dst := dst)
      (sS := .dma sS) (sem := .dma sR) (q := fullShare) (fs := fs) (κ₁ := κ₁) (κ₂ := κ₂)
      (r₁ := 0) (r₂ := 0) (d₁ := ()) (d₂ := ()) (fd := fd) hd₁ hd₂ () () N hN hk₁ hk₂ O hO (W := W)
      hp₁ hp₂ hr) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iexact Hk

end parts

/-! ## A counted loop -/

/-- A loop whose trip `h` turns `I h` into `I (h + 1)`. -/
theorem loop_run (c : Dev nD) {α : Type} {Q : α → sProp 𝕄} (f : Fin 16 → PT F PUnit) (I : ℕ → sProp 𝕄) (N : ℕ)
    (hstep : ∀ (h : Fin 16), h.val < N → ∀ k : PUnit → PT F α,
      I h.val ⊢ iprop((I (h.val + 1) -∗ wp frame (wpE (defs₀ (F := F)) 𝒱₀ c none) Set.univ (k ⟨⟩) Q)
        -∗ wp frame (wpE (defs₀ (F := F)) 𝒱₀ c none) Set.univ (f h >>= k) Q)) :
    ∀ (n i : ℕ) (hi : i + n ≤ 16) (_ : i + n ≤ N) (k : PUnit → PT F α),
      I i ⊢ iprop((I (i + n) -∗ wp frame (wpE (defs₀ (F := F)) 𝒱₀ c none) Set.univ (k ⟨⟩) Q)
        -∗ wp frame (wpE (defs₀ (F := F)) 𝒱₀ c none) Set.univ (loopUp f n i hi >>= k) Q) := by
  intro n
  induction n with
  | zero =>
    intro i hi hN k
    show I i ⊢ iprop((I i -∗ wp frame (wpE (defs₀ (F := F)) 𝒱₀ c none) Set.univ (k ⟨⟩) Q)
        -∗ wp frame (wpE (defs₀ (F := F)) 𝒱₀ c none) Set.univ (k ⟨⟩) Q)
    iintro H Hk
    iapply Hk $$ H
  | succ n ih =>
    intro i hi hN k
    rw [show loopUp f (n + 1) i hi >>= k = f ⟨i, by omega⟩ >>= fun _ => (loopUp f n (i + 1) (by omega) >>= k) from
      bind_assoc (f ⟨i, by omega⟩) (fun _ => loopUp f n (i + 1) (by omega)) k]
    have h1 := hstep ⟨i, by omega⟩ (show i < N by omega) fun _ => loopUp f n (i + 1) (by omega) >>= k
    have h2 := ih (i + 1) (by omega) (by omega) k
    iintro H Hk
    iapply h1 $$ H
    iintro H
    iapply h2 $$ H
    rw [show i + 1 + n = i + (n + 1) by omega]
    iexact Hk

end Cert.KernelIdeal.Talk
-- ==== Proof.Protocol.lean ====
module

public import proofs.«01_k».proof.Proof.Owns
public import Idealize.ShloMosaic.Lib.Pointwise.Index

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit
open Cert.KernelIdeal.Gen

variable {F : FTy → Type} [FloatOps F]

local notation "𝕄" => MT nD τ sig Unit (Elt F) ℕ UU ℕ

/-! ## Devices, buffers, counters -/

/-- The device a device exchanges its sums with: the other one along the cut axis. -/
def pr (d : Dev nD) : Dev nD := ⟨k0_dev1 d, k0_dev1_lt d⟩
theorem pr_pr (d : Dev nD) : pr (pr d) = d := by revert d; decide +kernel

abbrev aB : Memref sig .tc .vmem S16x32x128 .f32 := Memref.whole cc0_scratch0
abbrev lB : Memref sig .tc .vmem S32x16 .f32 := Memref.whole cc0_scratch1
abbrev raB : Memref sig .tc .vmem S16x32x128 .f32 := Memref.whole cc0_scratch2
abbrev rlB : Memref sig .tc .vmem S32x16 .f32 := Memref.whole cc0_scratch3
/-- The keys (`false`) and the values (`true`) of a device. -/
abbrev pgM : Bool → Memref sig .tc .hbm S256x32x16x128 .f32
  | false => Memref.whole main_arg1
  | true => Memref.whole main_arg2
/-- The buffer their heads are copied into. -/
abbrev bfM : Bool → Memref sig .tc .vmem S2x256x32x128 .f32
  | false => Memref.whole cc0_scratch4
  | true => Memref.whole cc0_scratch5
abbrev bsM : Bool → DmaSems sig S2
  | false => cc0_scratch6
  | true => cc0_scratch7

abbrev barS : Sem sig := (SemArray.scalar (sig.barrier 0 rfl) : Sems sig S_).sem
abbrev kvS (b : Bool) (s : Fin 2) : DmaSem sig := sem2 (bsM b) s
abbrev sndS (i : Fin 17) : DmaSem sig := sem17 cc0_scratch8 i
abbrev rcvS (i : Fin 17) : DmaSem sig := sem17 cc0_scratch9 i

abbrev barCell (d : Dev nD) : GSem nD τ sig := ((d : Thread nD τ), .reg barS)
abbrev kvCell (d : Dev nD) (b : Bool) (s : Fin 2) : GSem nD τ sig := ((d : Thread nD τ), .dma (kvS b s))
abbrev sndCell (d : Dev nD) (i : Fin 17) : GSem nD τ sig := ((d : Thread nD τ), .dma (sndS i))
abbrev rcvCell (d : Dev nD) (i : Fin 17) : GSem nD τ sig := ((d : Thread nD τ), .dma (rcvS i))

/-- What a counter is for. -/
inductive Cls
  | none
  | bar
  | kv (b : Bool) (s : Fin 2)
  | snd (i : Fin 17)
  | rcv (i : Fin 17)

/-- The class of the copies' counter of number `n`. -/
def clsN (n : ℕ) : Cls :=
  if n < 3 then .none
  else if n < 5 then .kv false ⟨(n - 3) % 2, Nat.mod_lt _ (by decide)⟩
  else if n < 7 then .kv true ⟨(n - 5) % 2, Nat.mod_lt _ (by decide)⟩
  else if n < 24 then .snd ⟨(n - 7) % 17, Nat.mod_lt _ (by decide)⟩
  else .rcv ⟨(n - 24) % 17, Nat.mod_lt _ (by decide)⟩

def cls : SemLoc sig → Cls
  | .reg _ => .bar
  | .dma i => clsN i.val

theorem kvS_val : ∀ (b : Bool) (s : Fin 2), (kvS b s).val = (if b then 5 else 3) + s.val := by decide
theorem sndS_val : ∀ i : Fin 17, (sndS i).val = 7 + i.val := by decide
theorem rcvS_val : ∀ i : Fin 17, (rcvS i).val = 24 + i.val := by decide

theorem cls_bar : cls (.reg barS) = .bar := rfl
theorem cls_kv (b : Bool) (s : Fin 2) : cls (.dma (kvS b s)) = .kv b s := by
  show clsN (kvS b s).val = _
  rw [kvS_val]
  fin_cases b <;> fin_cases s <;> rfl
theorem cls_snd (i : Fin 17) : cls (.dma (sndS i)) = .snd i := by
  show clsN (sndS i).val = _
  rw [sndS_val]
  fin_cases i <;> rfl
theorem cls_rcv (i : Fin 17) : cls (.dma (rcvS i)) = .rcv i := by
  show clsN (rcvS i).val = _
  rw [rcvS_val]
  fin_cases i <;> rfl

/-! ## What the devices compute -/

/-- What a device is given: the queries and the page counts as its kernel finds them, its keys and values. -/
structure Inp (F : FTy → Type) where
  q : Vec F S16x32x128 .f32
  w : Vec F S32x8192 .f32
  pg : Bool → Vec F S256x32x16x128 .f32

variable (x : Dev nD → Inp F)

/-- Head `h` of a page array, as it lies in its slot. -/
def pageOf (P : Vec F S256x32x16x128 .f32) (h : Fin 16) : Vec F S1x256x32x128 .f32 := fun j =>
  P ((rPage h).emb (Shape.reshapeEquiv squeezes_S256x32x1x128_S256x32x128.numel_eq
    ((Shape.reshapeEquiv squeezes_S1x256x32x128_S256x32x128.numel_eq).symm j)))
/-- Head `h` of the queries. -/
def qOf (q : Vec F S16x32x128 .f32) (h : Fin 16) : Vec F S1x32x128 .f32 := fun j => q ((rAcc h).emb j)
/-- A device's sums of weights of head `h`. -/
def lV (d : Dev nD) (h : Fin 16) : Vec F S32x1 .f32 :=
  lOf (x d).w (qOf (x d).q h) (pageOf ((x d).pg false) h)
/-- A device's weighted sums of values of head `h`. -/
def aV (d : Dev nD) (h : Fin 16) : Vec F S1x32x128 .f32 :=
  accOf (x d).w (qOf (x d).q h) (pageOf ((x d).pg false) h) (pageOf ((x d).pg true) h)
/-- A device's sums of weights. -/
def lAll (d : Dev nD) : Vec F S32x16 .f32 := fun i => lV x d (i 1) (ix2 (i 0) 0)
/-- Head `h` of the result. -/
def oV (d : Dev nD) (h : Fin 16) : Vec F S32x1x128 .f32 :=
  outOf h (lAll x d) (lAll x (pr d)) (aV x d h) (aV x (pr d) h)
/-- The result. -/
def oAll (d : Dev nD) : Vec F S32x16x128 .f32 := fun i => oV x d (i 1) (ix3 (i 0) 0 (i 2))

/-! ## The parts of the buffers -/

abbrev accP (m : Memref sig .tc .vmem S16x32x128 .f32) (d : Dev nD) (h : Fin 16) (X : Vec F S1x32x128 .f32) : sProp 𝕄 :=
  own1 d (m.slice (rAcc h) (fun _ => rfl)) X
abbrev pageP (d : Dev nD) (b : Bool) (h : Fin 16) (P : Vec F S256x32x16x128 .f32) : sProp 𝕄 :=
  own1 d ((pgM b).slice (rPage h) (fun _ => rfl)) fun j => P ((rPage h).emb j)
abbrev slotP (d : Dev nD) (b : Bool) (s : Fin 2) (X : Vec F S1x256x32x128 .f32) : sProp 𝕄 :=
  own1 d ((bfM b).slice (rSlot s) (fun _ => rfl)) X
abbrev colP (d : Dev nD) (h : Fin 16) (X : Vec F S32x1 .f32) : sProp 𝕄 :=
  own1 d (lB.slice (rCol h) (fun _ => rfl)) X

/-! ## The schedule -/

/-- The head slot `s` takes in round `r`. -/
def hd (r : ℕ) (s : Fin 2) : Fin 16 := ⟨(2 * r + s.val) % 16, Nat.mod_lt _ (by decide)⟩
theorem hd_sl (h : Fin 16) : hd (h.val / 2) (sl h) = h := by revert h; decide

/-- Paid to a device's barrier counter by its partner: the partner's two landing buffers, and that its
    landing counters are in their first round. -/
def barPay (d : Dev nD) : sProp 𝕄 :=
  iprop((bigSep Finset.univ fun i : Fin 16 => iprop(∃ X, accP (F := F) raB (pr d) i X)) ∗ (∃ X : Vec F S32x16 .f32, own1 (pr d) rlB X)
    ∗ bigSep Finset.univ fun i : Fin 17 => reached ER (rcvCell (pr d) i) 0)
def kvPay (d : Dev nD) (b : Bool) (s : Fin 2) (h : Fin 16) : sProp 𝕄 :=
  iprop(slotP d b s (pageOf ((x d).pg b) h) ∗ pageP d b h ((x d).pg b))
def sndPay (d : Dev nD) (i : Fin 17) : sProp 𝕄 :=
  if h : i.val < 16 then accP aB d ⟨i, h⟩ (aV x d ⟨i, h⟩) else own1 d lB (lAll x d)
def rcvPay (d : Dev nD) (i : Fin 17) : sProp 𝕄 :=
  if h : i.val < 16 then accP raB d ⟨i, h⟩ (aV x (pr d) ⟨i, h⟩) else own1 d rlB (lAll x (pr d))

def pay (d : Dev nD) : Cls → ℕ → sProp 𝕄
  | .none, _ => iprop(emp)
  | .bar, _ => barPay d
  | .kv b s, r => kvPay x d b s (hd r s)
  | .snd i, _ => sndPay x d i
  | .rcv i, _ => rcvPay x d i

instance pay_storable (d : Dev nD) (k : Cls) (r : ℕ) : BI.Storable (upEmb : UEmb _ 𝕄) (pay x d k r) := by
  unfold pay
  split
  · infer_instance
  · unfold barPay; infer_instance
  · unfold kvPay; infer_instance
  · unfold sndPay; split <;> infer_instance
  · unfold rcvPay; split <;> infer_instance

def NK : ℕ := (slotV (bfM false) 0).view.dmaCredit
def NA : ℕ := (accV raB 0).view.dmaCredit
def NL : ℕ := rlB.view.dmaCredit
def nS (i : Fin 17) : ℕ := if i.val < 16 then NA else NL

theorem NK_eq (b : Bool) (s : Fin 2) : (slotV (bfM b) s).view.dmaCredit = NK := by cases b <;> rfl
theorem NA_eq (m : Memref sig .tc .vmem S16x32x128 .f32) (h : Fin 16) : (accV m h).view.dmaCredit = NA := rfl
theorem NL_eq (m : Memref sig .tc .vmem S32x16 .f32) : m.view.dmaCredit = NL := rfl
theorem nS_castSucc (h : Fin 16) : nS h.castSucc = NA := if_pos h.isLt
theorem nS_last : nS 16 = NL := if_neg (by decide)

theorem NK_pos : 0 < NK := View.dmaCredit_pos _ (by decide)
theorem NA_pos : 0 < NA := View.dmaCredit_pos _ (by decide)
theorem NL_pos : 0 < NL := View.dmaCredit_pos _ (by decide)
theorem nS_pos (i : Fin 17) : 0 < nS i := by unfold nS; split; exacts [NA_pos, NL_pos]

def amt : Cls → ℕ
  | .none => 1
  | .bar => 1
  | .kv _ _ => NK
  | .snd i => nS i
  | .rcv i => nS i
theorem amt_pos (k : Cls) : 0 < amt k := by
  cases k
  exacts [Nat.one_pos, Nat.one_pos, NK_pos, nS_pos _, nS_pos _]

/-- How many rounds a counter goes through. -/
def rnds : Cls → ℕ
  | .none => 0
  | .bar => 1
  | .kv _ _ => 8
  | .snd _ => 1
  | .rcv _ => 1

def sched : Rounds.Schedule (GSem nD τ sig) Unit 𝕄 where
  duties g r := if g.1.2 = .tc ∧ r < rnds (cls g.2) then {()} else ∅
  unitless _ := False
  amount g _ _ := amt (cls g.2)
  payload g r _ := pay x g.1.1 (cls g.2) r
  amount_pos g _ _ _ := amt_pos (cls g.2)

instance sched_storable (g : GSem nD τ sig) (r : ℕ) (u : Unit) :
    BI.Storable (upEmb : UEmb _ 𝕄) ((sched (F := F) x).payload g r u) := by
  show BI.Storable upEmb (pay x g.1.1 (cls g.2) r)
  infer_instance

section facts
variable (d : Dev nD) {sm : SemLoc sig} {k : Cls}

theorem duties_eq (hk : cls sm = k) {r : ℕ} (hr : r < rnds k) : (sched x).duties ((d : Thread nD τ), sm) r = {()} := by
  subst hk; exact if_pos ⟨rfl, hr⟩
theorem mem_duties (hk : cls sm = k) {r : ℕ} (hr : r < rnds k) : () ∈ (sched x).duties ((d : Thread nD τ), sm) r := by
  rw [duties_eq x d hk hr]; exact Finset.mem_singleton_self _
theorem amount_eq (hk : cls sm = k) (r : ℕ) : (sched x).amount ((d : Thread nD τ), sm) r () = amt k := by subst hk; rfl
theorem payload_eq (hk : cls sm = k) (r : ℕ) : (sched x).payload ((d : Thread nD τ), sm) r () = pay x d k r := by subst hk; rfl
theorem expect_eq (hk : cls sm = k) {r : ℕ} (hr : r < rnds k) : (sched x).expect ((d : Thread nD τ), sm) r = amt k := by
  unfold Schedule.expect Schedule.amountOf
  rw [duties_eq x d hk hr, Finset.sum_singleton, amount_eq x d hk]
theorem rest_eq (hk : cls sm = k) {r : ℕ} (hr : r < rnds k) :
    bigSep ((sched x).duties ((d : Thread nD τ), sm) r \ ∅) (fun u => (sched x).payload ((d : Thread nD τ), sm) r u) = pay x d k r := by
  rw [Finset.sdiff_empty, duties_eq x d hk hr, bigSep_singleton, payload_eq x d hk]
theorem duties_later (hk : cls sm = k) : ∀ r, rnds k ≤ r → (sched x).duties ((d : Thread nD τ), sm) r = ∅ := by
  subst hk; exact fun r hr => if_neg fun h => absurd h.2 (Nat.not_lt.mpr hr)
end facts

theorem sndPay_head (d : Dev nD) (h : Fin 16) : sndPay x d h.castSucc = accP aB d h (aV x d h) := dif_pos h.isLt
theorem sndPay_last (d : Dev nD) : sndPay x d 16 = own1 d lB (lAll x d) := dif_neg (by decide)
theorem rcvPay_head (d : Dev nD) (h : Fin 16) : rcvPay x d h.castSucc = accP raB d h (aV x (pr d) h) := dif_pos h.isLt
theorem rcvPay_last (d : Dev nD) : rcvPay x d 16 = own1 d rlB (lAll x (pr d)) := dif_neg (by decide)

/-! ## Levels -/

/-- What device `c` still owes its partner's landing counters `n, …, 16`. -/
def oweR (c : Dev nD) (n : ℕ) : CellTallies nD τ sig Unit := ∑ i ∈ finFrom 17 n, tallyAt (rcvCell (pr c) i) () (nS i)
/-- What a device owes at the start. -/
def O₀ (c : Dev nD) : CellTallies nD τ sig Unit := oweR c 0 + tallyAt (barCell (pr c)) () 1

theorem oweR_succ (c : Dev nD) (n : ℕ) (hn : n < 17) :
    oweR c n = oweR c (n + 1) + tallyAt (rcvCell (pr c) ⟨n, hn⟩) () (nS ⟨n, hn⟩) := sum_finFrom_succ hn _
theorem oweR_end (c : Dev nD) : oweR c 17 = 0 := by unfold oweR; rw [sum_finFrom_self]

def L (g : GSem nD τ sig) : Finset Unit := if g.1.2 = .tc then {()} else ∅
def lvC : Cls → ℕ
  | .bar => 1
  | .rcv _ => 2
  | _ => 0
def lv (g : GSem nD τ sig) (_ : Unit) : ℕ := lvC (cls g.2)
theorem L_of_ne (g : GSem nD τ sig) (h : g.1.2 ≠ .tc) : L g = ∅ := if_neg h
theorem L_tc (c : Dev nD) (sm : SemLoc sig) : L ((c : Thread nD τ), sm) = {()} := if_pos rfl

theorem oweR_pos {c : Dev nD} {n : ℕ} {g : GSem nD τ sig} {u : Unit} (h : 0 < oweR c n g u) : ∃ i, g = rcvCell (pr c) i := by
  obtain ⟨i, -, hi, -⟩ := sum_tallyAt_apply_pos h
  exact ⟨i, hi⟩

/-- A counter no higher than the barriers may be waited on while the landings are owed. -/
theorem mayWait (c : Dev nD) (n : ℕ) {sm : SemLoc sig} (hl : lvC (cls sm) ≤ 1) :
    (levAts L lv : sProp 𝕄) ⊢ MayWait (c : Thread nD τ) sm () (oweR c n) :=
  MayOwe.of_cut (L := L) (lev := lv) 1 (fun p hp => by rw [Finset.mem_singleton.mp hp, L_tc]; exact Finset.mem_singleton_self _)
    (fun g u hg => by
      obtain ⟨i, rfl⟩ := oweR_pos hg
      rw [L_tc]; exact Finset.mem_singleton_self _)
    (fun p hp => by rw [Finset.mem_singleton.mp hp]; exact hl)
    (fun g u hg => by
      obtain ⟨i, rfl⟩ := oweR_pos hg
      show 1 < lvC (cls (.dma (rcvS i)))
      rw [cls_rcv]; exact Nat.lt_succ_self 1)

/-! ## The cells -/

/-- The counters of the kernel's own. -/
abbrev OI : Type := (Bool × Fin 2) ⊕ (Fin 17 ⊕ Fin 17)
abbrev osem : OI → SemLoc sig
  | .inl (b, s) => .dma (kvS b s)
  | .inr (.inl i) => .dma (sndS i)
  | .inr (.inr i) => .dma (rcvS i)
def ocls : OI → Cls
  | .inl (b, s) => .kv b s
  | .inr (.inl i) => .snd i
  | .inr (.inr i) => .rcv i
theorem cls_osem (k : OI) : cls (osem k) = ocls k := by
  rcases k with ⟨b, s⟩ | i | i
  exacts [cls_kv b s, cls_snd i, cls_rcv i]
theorem osem_inj : Function.Injective osem := by
  intro k k' h
  have h := (cls_osem k).symm.trans ((congrArg cls h).trans (cls_osem k'))
  rcases k with ⟨b, s⟩ | i | i <;> rcases k' with ⟨b', s'⟩ | i' | i' <;> simp only [ocls] at h <;> cases h <;> rfl
theorem osem_ne_bar (k : OI) : osem k ≠ .reg barS := by
  rcases k with ⟨b, s⟩ | i | i <;> exact fun h => by cases h

def barEmb : Dev nD ↪ GSem nD τ sig := ⟨fun c => barCell c, fun _ _ h => congrArg (fun g : GSem nD τ sig => g.1.1) h⟩
def scEmb : Dev nD × OI ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

/-- What every device may consult: the invariants, and that every barrier counter is in its first round. -/
def records (κ : GSem nD τ sig → ℕ) : sProp 𝕄 :=
  iprop((bigSep (barCells ∪ scCells) fun g => cellInv ER (sched x) (κ g) g) ∗ bigSep barCells fun g => reached ER g 0)
instance records_persistent (κ : GSem nD τ sig → ℕ) : BI.Persistent (records x κ) := by unfold records; infer_instance

theorem inv_at (κ : GSem nD τ sig → ℕ) {g : GSem nD τ sig} (hg : g ∈ (barCells ∪ scCells : Finset (GSem nD τ sig))) :
    (bigSep (barCells ∪ scCells) fun g => (cellInv ER (sched x) (κ g) g : sProp 𝕄)) ⊢ cellInv ER (sched x) (κ g) g :=
  bigSep_elim hg
theorem reached_at (c : Dev nD) : (bigSep barCells fun g => (reached ER g 0 : sProp 𝕄)) ⊢ reached ER (barCell c) 0 :=
  bigSep_elim (Finset.mem_map_of_mem barEmb (Finset.mem_univ c))

theorem records_bar (κ : GSem nD τ sig → ℕ) (c : Dev nD) : records x κ ⊢ cellInv ER (sched x) (κ (barCell c)) (barCell c) := by
  unfold records
  iintro ⟨H, -⟩
  iapply (inv_at x κ (Finset.mem_union_left _ (Finset.mem_map_of_mem barEmb (Finset.mem_univ c)))) $$ H
theorem records_own (κ : GSem nD τ sig → ℕ) (c : Dev nD) (k : OI) :
    records x κ ⊢ cellInv ER (sched x) (κ ((c : Thread nD τ), osem k)) ((c : Thread nD τ), osem k) := by
  unfold records
  iintro ⟨H, -⟩
  iapply (inv_at x κ (Finset.mem_union_right _ (Finset.mem_map_of_mem scEmb (Finset.mem_univ (c, k))))) $$ H
theorem records_reached (κ : GSem nD τ sig → ℕ) (c : Dev nD) : (records x κ : sProp 𝕄) ⊢ reached ER (barCell c) 0 := by
  unfold records
  iintro ⟨-, H⟩
  iapply (reached_at c) $$ H

end Cert.KernelIdeal.Talk
-- ==== Proof.Body.lean ====
module

public import proofs.«01_k».proof.Proof.Protocol

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit
open Cert.KernelIdeal.Gen

variable {F : FTy → Type} [FloatOps F]

local notation "𝕄" => MT nD τ sig Unit (Elt F) ℕ UU ℕ

variable (x : Dev nD → Inp F) (κ : GSem nD τ sig → ℕ) (c : Dev nD) {α : Type}

/-- The right to start the copy of head `h`. -/
abbrev kvTok (b : Bool) (h : Fin 16) : sProp 𝕄 := dutyTok ER (kvCell c b (sl h)) (h.val / 2) ()

/-- A free slot, ready for round `r`. -/
def freeS (b : Bool) (s : Fin 2) (r : ℕ) : sProp 𝕄 :=
  iprop((∃ X, slotP c b s X) ∗ atPos ER (kvCell c b s) r ∅ 0 ∗ reached ER (kvCell c b s) r)
/-- A slot a copy is under way to, in round `r`. -/
def flyS (b : Bool) (s : Fin 2) (r : ℕ) : sProp 𝕄 :=
  iprop(cred (tallyAt (kvCell c b s) () NK) ∗ atPos ER (kvCell c b s) r ∅ 0)

theorem rnd_lt (h : Fin 16) : h.val / 2 < 8 := by omega

theorem fetch_run {Q : α → sProp 𝕄} (b : Bool) (h : Fin 16) (k : PUnit → PT F α) :
    iprop(records x κ ∗ freeS c b (sl h) (h.val / 2) ∗ kvTok c b h ∗ pageP c b h ((x c).pg b))
      ⊢ iprop((flyS c b (sl h) (h.val / 2) -∗ wp frame (wpE (defs₀ (F := F)) 𝒱₀ c none) Set.univ (k ⟨⟩) Q)
        -∗ wp frame (wpE (defs₀ (F := F)) 𝒱₀ c none) Set.univ (fetchP (pgM b) (bfM b) (bsM b) h >>= k) Q) := by
  unfold fetchP freeS flyS
  rw [Prog.bind_lift]
  iintro ⟨#HR, ⟨⟨%X, Hs⟩, Hat, #Hr⟩, Ht, Hp⟩ Hk
  ihave #HI := (records_own x κ c (.inl (b, sl h))) $$ HR
  have hc := cls_kv b (sl h)
  have hpay : iprop(own1 c (slotV (bfM b) (sl h)) (fun j => (x c).pg b ((rPage h).emb (Shape.reshapeEquiv squeezes_S256x32x1x128_S256x32x128.numel_eq j)))
      ∗ own1 c (pageV (pgM b) h) (fun j => (x c).pg b ((rPage h).emb (Shape.reshapeEquiv squeezes_S256x32x1x128_S256x32x128.numel_eq j))))
      ⊢ (sched x).payload (kvCell c b (sl h)) (h.val / 2) () := by
    rw [payload_eq x c hc]
    show _ ⊢ kvPay x c b (sl h) (hd (h.val / 2) (sl h))
    rw [hd_sl]
    unfold kvPay slotP pageP own1
    rw [owns_squeeze c ((bfM b).slice (rSlot (sl h)) (fun _ => rfl)) squeezes_S1x256x32x128_S256x32x128,
      owns_squeeze c ((pgM b).slice (rPage h) (fun _ => rfl)) squeezes_S256x32x1x128_S256x32x128]
    unfold pageOf
    simp only [Equiv.symm_apply_apply]
    exact .rfl
  ihave Hs := (Entails.of_eq (owns_squeeze c ((bfM b).slice (rSlot (sl h)) (fun _ => rfl)) squeezes_S1x256x32x128_S256x32x128 fullShare X)) $$ Hs
  ihave Hp := (Entails.of_eq (owns_squeeze c ((pgM b).slice (rPage h) (fun _ => rfl)) squeezes_S256x32x1x128_S256x32x128 fullShare _)) $$ Hp
  iapply (copy_own c (sched x) (κ := κ (kvCell c b (sl h))) _ _ (mem_duties x c hc (rnd_lt h)) NK (NK_eq b (sl h)) (amount_eq x c hc _) hpay) $$ [Hs Hp Ht]
  · isplitr; · iexact HI
    isplitl [Hp]; · iexact Hp
    isplitl [Hs]; · iexact Hs
    isplitl [Ht]; · iexact Ht
    iexact Hr
  iintro Hc
  iapply Hk
  isplitl [Hc]; · iexact Hc
  iexact Hat

theorem fetched_run {Q : α → sProp 𝕄} (b : Bool) (h : Fin 16) (n : ℕ) (k : PUnit → PT F α) :
    iprop(records x κ ∗ levAts L lv ∗ flyS c b (sl h) (h.val / 2) ∗ ∃ W, owes (c : Thread nD τ) (oweR c n) W)
      ⊢ iprop((iprop(slotP c b (sl h) (pageOf ((x c).pg b) h) ∗ pageP c b h ((x c).pg b)
            ∗ atPos ER (kvCell c b (sl h)) (h.val / 2 + 1) ∅ 0 ∗ reached ER (kvCell c b (sl h)) (h.val / 2 + 1)
            ∗ ∃ W, owes (c : Thread nD τ) (oweR c n) W)
          -∗ wp frame (wpE (defs₀ (F := F)) 𝒱₀ c none) Set.univ (k ⟨⟩) Q)
        -∗ wp frame (wpE (defs₀ (F := F)) 𝒱₀ c none) Set.univ (fetchedP (pgM b) (bfM b) (bsM b) h >>= k) Q) := by
  unfold fetchedP flyS
  rw [Prog.bind_lift]
  have hc := cls_kv b (sl h)
  have hl : lvC (cls (.dma (kvS b (sl h)))) ≤ 1 := by rw [hc]; exact Nat.zero_le _
  have hm : 0 + (slotV (bfM b) (sl h)).view.dmaCredit = (sched x).expect (kvCell c b (sl h)) (h.val / 2) :=
    (Nat.zero_add _).trans ((NK_eq b (sl h)).trans (expect_eq x c hc (rnd_lt h)).symm)
  iintro ⟨#HR, #Hlev, ⟨Hc, Hat⟩, ⟨%W, HO⟩⟩ Hk
  ihave #HI := (records_own x κ c (.inl (b, sl h))) $$ HR
  rw [← NK_eq b (sl h)]
  iapply (Rounds.wp_wait_rest_token 𝒱₀ ER (sched x) (c : Thread nD τ) none (κ := κ (kvCell c b (sl h)))
      (wpE_waitDma2_eq 𝒱₀ (c : Thread nD τ) none Set.univ) (Set.mem_univ _) () (O := oweR c n) (W := W) (R := h.val / 2) (m := 0) (T := ∅)
      hm) $$ [Hc HO Hat]
  · isplitr; · iexact HI
    isplitl [Hc]; · iexact Hc
    isplitl [HO]; · iexact HO
    isplitr; · iapply (mayWait c n hl); iexact Hlev
    iexact Hat
  iintro ⟨HO, Hat, Hr, Hpay⟩
  ihave Hp := (Entails.of_eq (rest_eq x c hc (rnd_lt h))) $$ Hpay
  ihave Hp := (show pay x c (.kv b (sl h)) (h.val / 2) ⊢ kvPay x c b (sl h) h from Entails.of_eq (by
    show kvPay x c b (sl h) (hd (h.val / 2) (sl h)) = _
    rw [hd_sl])) $$ Hp
  unfold kvPay
  icases Hp with ⟨Hs, Hp⟩
  iapply Hk
  isplitl [Hs]; · iexact Hs
  isplitl [Hp]; · iexact Hp
  isplitl [Hat]; · iexact Hat
  isplitl [Hr]; · iexact Hr
  iexists _; iexact HO

/-- What head `h` still needs. -/
def todoH (h : Fin 16) : sProp 𝕄 :=
  iprop((∃ X, colP c h X) ∗ (∃ X, accP aB c h X) ∗ (∃ X, accP raB (pr c) h X)
    ∗ dutyTok ER (sndCell c h.castSucc) 0 () ∗ reached ER (sndCell c h.castSucc) 0
    ∗ dutyTok ER (rcvCell (pr c) h.castSucc) 0 () ∗ reached ER (rcvCell (pr c) h.castSucc) 0)
/-- What head `h` leaves. -/
def doneH (h : Fin 16) : sProp 𝕄 :=
  iprop(colP c h (lV x c h) ∗ cred (tallyAt (sndCell c h.castSucc) () NA))

/-- The load of a head of the queries. -/
theorem load_q {Q : α → sProp 𝕄} (qM : Memref sig .tc .vmem S16x32x128 .f32) (qs : PosShare TreeShare) (h : Fin 16)
    (X : Vec F S16x32x128 .f32) {hl : qM.view.LoadsAt (rAcc h).toLoadRect} {k : Vec F S1x32x128 .f32 → PT F α} :
    (owns (c : Thread nD τ) qM qs X : sProp 𝕄)
      ⊢ iprop((owns (c : Thread nD τ) qM qs X -∗ wp frame (wpE (defs₀ (F := F)) 𝒱₀ c none) Set.univ (k (qOf X h)) Q)
        -∗ wp frame (wpE (defs₀ (F := F)) 𝒱₀ c none) Set.univ (.op (.load qM (rAcc h).toLoadRect hl) k) Q) :=
  load_rect (Q := Q) c (m := qM) (r := rAcc h) (hl := hl) (k := k) (q := qs) X

theorem head_run {Q : α → sProp 𝕄} (qM : Memref sig .tc .vmem S16x32x128 .f32) (qs : PosShare TreeShare) (h : Fin 16) (k : PUnit → PT F α) :
    iprop(records x κ ∗ levAts L lv ∗ flyS c false (sl h) (h.val / 2) ∗ flyS c true (sl h) (h.val / 2) ∗ todoH c h
        ∗ owns (c : Thread nD τ) qM qs (x c).q ∗ ∃ W, owes (c : Thread nD τ) (oweR c h.val) W)
      ⊢ iprop((iprop(freeS c false (sl h) (h.val / 2 + 1) ∗ freeS c true (sl h) (h.val / 2 + 1)
            ∗ pageP c false h ((x c).pg false) ∗ pageP c true h ((x c).pg true) ∗ doneH x c h
            ∗ owns (c : Thread nD τ) qM qs (x c).q ∗ ∃ W, owes (c : Thread nD τ) (oweR c (h.val + 1)) W)
          -∗ wp frame (wpE (defs₀ (F := F)) 𝒱₀ c none) Set.univ (k ⟨⟩) Q)
        -∗ wp frame (wpE (defs₀ (F := F)) 𝒱₀ c none) Set.univ
          (headP qM (pgM false) (pgM true) aB lB raB (bfM false) (bfM true) (bsM false) (bsM true) cc0_scratch8 cc0_scratch9 (x c).w c h >>= k) Q) := by
  unfold headP
  simp only [bind_assoc, Prog.bind_lift]
  unfold todoH doneH freeS
  iintro ⟨#HR, #Hlev, HfK, HfV, ⟨⟨%X1, Hl⟩, ⟨%X2, Ha⟩, ⟨%X3, Hra⟩, HtS, #HrS, HtR, #HrR⟩, Hq, HO⟩ Hk
  ihave #HIs := (records_own x κ c (.inr (.inl h.castSucc))) $$ HR
  ihave #HIr := (records_own x κ (pr c) (.inr (.inr h.castSucc))) $$ HR
  iapply (fetched_run x κ c false h h.val) $$ [HfK HO]
  · isplitr; · iexact HR
    isplitr; · iexact Hlev
    isplitl [HfK] <;> iassumption
  iintro ⟨Hsk, Hpk, Hatk, Hrk, HO⟩
  iapply (load_q c qM qs h (x c).q) $$ Hq
  iintro Hq
  iapply (load_part c (pageOf ((x c).pg false) h)) $$ Hsk
  iintro Hsk
  iapply (load_part c X1) $$ Hl
  iintro Hl
  iapply (store_part c X1) $$ Hl
  iintro Hl
  iapply (fetched_run x κ c true h h.val) $$ [HfV HO]
  · isplitr; · iexact HR
    isplitr; · iexact Hlev
    isplitl [HfV] <;> iassumption
  iintro ⟨Hsv, Hpv, Hatv, Hrv, HO⟩
  iapply (load_part c (pageOf ((x c).pg true) h)) $$ Hsv
  iintro Hsv
  iapply (load_part c X2) $$ Ha
  iintro Ha
  iapply (store_part c X2) $$ Ha
  iintro Ha
  icases HO with ⟨%W, HO⟩
  ihave Ha := (Entails.of_eq (owns_squeeze c (aB.slice (rAcc h) (fun _ => rfl)) squeezes_S1x32x128_S32x128 fullShare _)) $$ Ha
  ihave Hra := (Entails.of_eq (owns_squeeze (pr c) (raB.slice (rAcc h) (fun _ => rfl)) squeezes_S1x32x128_S32x128 fullShare X3)) $$ Hra
  have hcs := cls_snd h.castSucc
  have hcr := cls_rcv h.castSucc
  have hp1 : own1 c (accV aB h) (fun j => aV x c h (Shape.reshapeEquiv squeezes_S1x32x128_S32x128.numel_eq j))
      ⊢ (sched x).payload (sndCell c h.castSucc) 0 () := by
    rw [payload_eq x c hcs]
    show _ ⊢ sndPay x c h.castSucc
    rw [sndPay_head]
    exact Entails.of_eq (owns_squeeze c (aB.slice (rAcc h) (fun _ => rfl)) squeezes_S1x32x128_S32x128 fullShare (aV x c h)).symm
  have hp2 : own1 (pr c) (accV raB h) (fun j => aV x c h (Shape.reshapeEquiv squeezes_S1x32x128_S32x128.numel_eq j))
      ⊢ (sched x).payload (rcvCell (pr c) h.castSucc) 0 () := by
    rw [payload_eq x (pr c) hcr]
    show _ ⊢ rcvPay x (pr c) h.castSucc
    rw [rcvPay_head, pr_pr]
    exact Entails.of_eq (owns_squeeze (pr c) (raB.slice (rAcc h) (fun _ => rfl)) squeezes_S1x32x128_S32x128 fullShare (aV x c h)).symm
  have hO : oweR c h.val = oweR c (h.val + 1) + tallyAt (rcvCell (pr c) h.castSucc) () NA := by
    rw [oweR_succ c h.val (by omega)]
    rw [show (⟨h.val, by omega⟩ : Fin 17) = h.castSucc from rfl, nS_castSucc]
  have ha1 : (sched x).amount (sndCell c h.castSucc) 0 () = NA := (amount_eq x c hcs 0).trans (nS_castSucc h)
  have ha2 : (sched x).amount (rcvCell (pr c) h.castSucc) 0 () = NA := (amount_eq x (pr c) hcr 0).trans (nS_castSucc h)
  have hd1 := mem_duties x c hcs (r := 0) Nat.one_pos
  have hd2 := mem_duties x (pr c) hcr (r := 0) Nat.one_pos
  iapply (send_own c (sched x) (pr c) (κ₁ := κ (sndCell c h.castSucc)) (κ₂ := κ (rcvCell (pr c) h.castSucc)) _ _ hd1 hd2 NA (NA_eq raB h) ha1 ha2
      (oweR c (h.val + 1)) hO hp1 hp2) $$ [Ha Hra HO HtS HtR]
  · isplitr; · iexact HIs
    isplitr; · iexact HIr
    isplitl [Ha]; · iexact Ha
    isplitl [Hra]; · iexact Hra
    isplitl [HO]; · iexact HO
    isplitl [HtS]; · iexact HtS
    isplitr; · iexact HrS
    isplitl [HtR]; · iexact HtR
    iexact HrR
  iintro ⟨Hc, HO⟩
  iapply Hk
  isplitl [Hsk Hatk Hrk]
  · isplitl [Hsk]; · iexists _; iexact Hsk
    isplitl [Hatk] <;> iassumption
  isplitl [Hsv Hatv Hrv]
  · isplitl [Hsv]; · iexists _; iexact Hsv
    isplitl [Hatv] <;> iassumption
  isplitl [Hpk]; · iexact Hpk
  isplitl [Hpv]; · iexact Hpv
  isplitl [Hl Hc]
  · isplitl [Hl]; · iexact Hl
    iexact Hc
  isplitl [Hq]; · iexact Hq
  iexists _; iexact HO

end Cert.KernelIdeal.Talk
-- ==== Proof.Parts.lean ====
module

public import proofs.«01_k».proof.Proof.Protocol

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit
open Cert.KernelIdeal.Gen

variable {F : FTy → Type} [FloatOps F]

local notation "𝕄" => MT nD τ sig Unit (Elt F) ℕ UU ℕ

/-! ## The families of parts are disjoint and cover -/

theorem rAcc_disj (h h' : Fin 16) (hh : h ≠ h') : Disjoint (rAcc h).set (rAcc h').set :=
  Rect.unit_disjoint 0 (by
    have : h.val ≠ h'.val := fun e => hh (Fin.ext e)
    show h.val + 1 ≤ h'.val ∨ h'.val + 1 ≤ h.val
    omega)
theorem rPage_disj (h h' : Fin 16) (hh : h ≠ h') : Disjoint (rPage h).set (rPage h').set :=
  Rect.unit_disjoint 2 (by
    have : h.val ≠ h'.val := fun e => hh (Fin.ext e)
    show h.val + 1 ≤ h'.val ∨ h'.val + 1 ≤ h.val
    omega)
theorem rCol_disj (h h' : Fin 16) (hh : h ≠ h') : Disjoint (rCol h).set (rCol h').set :=
  Rect.unit_disjoint 1 (by
    have : h.val ≠ h'.val := fun e => hh (Fin.ext e)
    show h.val + 1 ≤ h'.val ∨ h'.val + 1 ≤ h.val
    omega)
theorem rOut_disj (h h' : Fin 16) (hh : h ≠ h') : Disjoint (rOut h).set (rOut h').set :=
  Rect.unit_disjoint 1 (by
    have : h.val ≠ h'.val := fun e => hh (Fin.ext e)
    show h.val + 1 ≤ h'.val ∨ h'.val + 1 ≤ h.val
    omega)
theorem rSlot_disj (s s' : Fin 2) (hh : s ≠ s') : Disjoint (rSlot s).set (rSlot s').set :=
  Rect.unit_disjoint 0 (by
    have : s.val ≠ s'.val := fun e => hh (Fin.ext e)
    show s.val + 1 ≤ s'.val ∨ s'.val + 1 ≤ s.val
    omega)

theorem rAcc_emb (h : Fin 16) (j : S1x32x128.Idx) : (rAcc h).emb j = ix3 h (j 1) (j 2) := by
  have h0 : (j 0).val = 0 := Nat.lt_one_iff.mp (j 0).isLt
  funext a; apply Fin.ext; rw [Rect.emb_apply]
  fin_cases a
  · show h.val + 1 * (j 0).val = h.val; omega
  · show 0 + 1 * (j 1).val = (j 1).val; omega
  · show 0 + 1 * (j 2).val = (j 2).val; omega
theorem rPage_emb (h : Fin 16) (j : S256x32x1x128.Idx) : (rPage h).emb j = ix4 (j 0) (j 1) h (j 3) := by
  have h0 : (j 2).val = 0 := Nat.lt_one_iff.mp (j 2).isLt
  funext a; apply Fin.ext; rw [Rect.emb_apply]
  fin_cases a
  · show 0 + 1 * (j 0).val = (j 0).val; omega
  · show 0 + 1 * (j 1).val = (j 1).val; omega
  · show h.val + 1 * (j 2).val = h.val; omega
  · show 0 + 1 * (j 3).val = (j 3).val; omega
theorem rCol_emb (h : Fin 16) (j : S32x1.Idx) : (rCol h).emb j = ix2 (j 0) h := by
  have h0 : (j 1).val = 0 := Nat.lt_one_iff.mp (j 1).isLt
  funext a; apply Fin.ext; rw [Rect.emb_apply]
  fin_cases a
  · show 0 + 1 * (j 0).val = (j 0).val; omega
  · show h.val + 1 * (j 1).val = h.val; omega
theorem rOut_emb (h : Fin 16) (j : S32x1x128.Idx) : (rOut h).emb j = ix3 (j 0) h (j 2) := by
  have h0 : (j 1).val = 0 := Nat.lt_one_iff.mp (j 1).isLt
  funext a; apply Fin.ext; rw [Rect.emb_apply]
  fin_cases a
  · show 0 + 1 * (j 0).val = (j 0).val; omega
  · show h.val + 1 * (j 1).val = h.val; omega
  · show 0 + 1 * (j 2).val = (j 2).val; omega
theorem rSlot_emb (s : Fin 2) (j : S1x256x32x128.Idx) : (rSlot s).emb j = ix4 s (j 1) (j 2) (j 3) := by
  have h0 : (j 0).val = 0 := Nat.lt_one_iff.mp (j 0).isLt
  funext a; apply Fin.ext; rw [Rect.emb_apply]
  fin_cases a
  · show s.val + 1 * (j 0).val = s.val; omega
  · show 0 + 1 * (j 1).val = (j 1).val; omega
  · show 0 + 1 * (j 2).val = (j 2).val; omega
  · show 0 + 1 * (j 3).val = (j 3).val; omega

theorem rAcc_cov : (Finset.univ.biUnion fun h => (rAcc h).set) = Finset.univ := by
  refine Finset.eq_univ_iff_forall.mpr fun i => Finset.mem_biUnion.mpr ⟨i 0, Finset.mem_univ _, Rect.mem_set_unit.mpr fun a => ?_⟩
  fin_cases a
  · exact ⟨Nat.le_refl (i 0).val, Nat.lt_succ_self (i 0).val⟩
  · exact ⟨Nat.zero_le _, (Nat.zero_add 32).symm ▸ (i 1).isLt⟩
  · exact ⟨Nat.zero_le _, (Nat.zero_add 128).symm ▸ (i 2).isLt⟩
theorem rPage_cov : (Finset.univ.biUnion fun h => (rPage h).set) = Finset.univ := by
  refine Finset.eq_univ_iff_forall.mpr fun i => Finset.mem_biUnion.mpr ⟨i 2, Finset.mem_univ _, Rect.mem_set_unit.mpr fun a => ?_⟩
  fin_cases a
  · exact ⟨Nat.zero_le _, (Nat.zero_add 256).symm ▸ (i 0).isLt⟩
  · exact ⟨Nat.zero_le _, (Nat.zero_add 32).symm ▸ (i 1).isLt⟩
  · exact ⟨Nat.le_refl (i 2).val, Nat.lt_succ_self (i 2).val⟩
  · exact ⟨Nat.zero_le _, (Nat.zero_add 128).symm ▸ (i 3).isLt⟩
theorem rCol_cov : (Finset.univ.biUnion fun h => (rCol h).set) = Finset.univ := by
  refine Finset.eq_univ_iff_forall.mpr fun i => Finset.mem_biUnion.mpr ⟨i 1, Finset.mem_univ _, Rect.mem_set_unit.mpr fun a => ?_⟩
  fin_cases a
  · exact ⟨Nat.zero_le _, (Nat.zero_add 32).symm ▸ (i 0).isLt⟩
  · exact ⟨Nat.le_refl (i 1).val, Nat.lt_succ_self (i 1).val⟩
theorem rOut_cov : (Finset.univ.biUnion fun h => (rOut h).set) = Finset.univ := by
  refine Finset.eq_univ_iff_forall.mpr fun i => Finset.mem_biUnion.mpr ⟨i 1, Finset.mem_univ _, Rect.mem_set_unit.mpr fun a => ?_⟩
  fin_cases a
  · exact ⟨Nat.zero_le _, (Nat.zero_add 32).symm ▸ (i 0).isLt⟩
  · exact ⟨Nat.le_refl (i 1).val, Nat.lt_succ_self (i 1).val⟩
  · exact ⟨Nat.zero_le _, (Nat.zero_add 128).symm ▸ (i 2).isLt⟩
theorem rSlot_cov : (Finset.univ.biUnion fun h => (rSlot h).set) = Finset.univ := by
  refine Finset.eq_univ_iff_forall.mpr fun i => Finset.mem_biUnion.mpr ⟨i 0, Finset.mem_univ _, Rect.mem_set_unit.mpr fun a => ?_⟩
  fin_cases a
  · exact ⟨Nat.le_refl (i 0).val, Nat.lt_succ_self (i 0).val⟩
  · exact ⟨Nat.zero_le _, (Nat.zero_add 256).symm ▸ (i 1).isLt⟩
  · exact ⟨Nat.zero_le _, (Nat.zero_add 32).symm ▸ (i 2).isLt⟩
  · exact ⟨Nat.zero_le _, (Nat.zero_add 128).symm ▸ (i 3).isLt⟩

/-! ## Taking the buffers apart and putting them together -/

variable (d : Dev nD)

variable [∀ e, Nonempty (Elt F e)]

theorem ex_i {β : Type} (P : β → sProp 𝕄) (b : β) : P b ⊢ iprop(∃ b, P b) := by iintro H; iexists b; iexact H

theorem eta_acc (f : Vec F S1x32x128 .f32) (j : S1x32x128.Idx) : f (ix3 (0 : Fin 1) (j 1) (j 2)) = f j := by
  have h0 : j 0 = (0 : Fin 1) := Subsingleton.elim (α := Fin 1) _ _
  refine congrArg f (.trans ?_ (eq_ix3 j).symm)
  rw [h0]
theorem eta_col (f : Vec F S32x1 .f32) (j : S32x1.Idx) : f (ix2 (j 0) (0 : Fin 1)) = f j := by
  have h0 : j 1 = (0 : Fin 1) := Subsingleton.elim (α := Fin 1) _ _
  refine congrArg f (.trans ?_ (eq_ix2 j).symm)
  rw [h0]
theorem eta_out (f : Vec F S32x1x128 .f32) (j : S32x1x128.Idx) : f (ix3 (j 0) (0 : Fin 1) (j 2)) = f j := by
  have h0 : j 1 = (0 : Fin 1) := Subsingleton.elim (α := Fin 1) _ _
  refine congrArg f (.trans ?_ (eq_ix3 j).symm)
  rw [h0]
theorem eta_slot (f : Vec F S1x256x32x128 .f32) (j : S1x256x32x128.Idx) : f (ix4 (0 : Fin 1) (j 1) (j 2) (j 3)) = f j := by
  have h0 : j 0 = (0 : Fin 1) := Subsingleton.elim (α := Fin 1) _ _
  refine congrArg f (.trans ?_ (eq_ix4 j).symm)
  rw [h0]

theorem acc_split (m : Memref sig .tc .vmem S16x32x128 .f32) (X : Vec F S16x32x128 .f32) :
    (own1 d m X : sProp 𝕄) ⊢ bigSep Finset.univ fun h : Fin 16 => iprop(∃ X, accP m d h X) :=
  (owns_rects (d : Thread nD τ) m fullShare rAcc (fun _ _ => rfl) rAcc_disj rAcc_cov X).trans
    (bigSep_mono fun h _ => ex_i (fun X => accP m d h X) _)
theorem acc_join (m : Memref sig .tc .vmem S16x32x128 .f32) (f : Fin 16 → Vec F S1x32x128 .f32) :
    (bigSep Finset.univ fun h : Fin 16 => (accP m d h (f h) : sProp 𝕄)) ⊢ iprop(∃ X, own1 d m X) := by
  have h := owns_of_rects (Ix := Unit) (Name := ℕ) (U := UU) (Lvl := ℕ) (d : Thread nD τ) m fullShare rAcc (fun _ _ => rfl) rAcc_disj rAcc_cov
    (fun i => f (i 0) (ix3 (0 : Fin 1) (i 1) (i 2)) : Vec F S16x32x128 .f32)
  have e (t : Fin 16) : (fun j => (fun i => f (i 0) (ix3 (0 : Fin 1) (i 1) (i 2)) : Vec F S16x32x128 .f32) ((rAcc t).emb j)) = f t := by
    funext j
    rw [rAcc_emb]
    exact eta_acc (f t) j
  simp only [e] at h
  exact h.trans (ex_i (fun X => own1 d m X) _)
theorem page_split (b : Bool) (P : Vec F S256x32x16x128 .f32) :
    (own1 d (pgM b) P : sProp 𝕄) ⊢ bigSep Finset.univ fun h : Fin 16 => pageP d b h P :=
  owns_rects (d : Thread nD τ) (pgM b) fullShare rPage (fun _ _ => rfl) rPage_disj rPage_cov P
theorem page_join (b : Bool) (P : Vec F S256x32x16x128 .f32) :
    (bigSep Finset.univ fun h : Fin 16 => (pageP d b h P : sProp 𝕄)) ⊢ own1 d (pgM b) P :=
  owns_of_rects (d : Thread nD τ) (pgM b) fullShare rPage (fun _ _ => rfl) rPage_disj rPage_cov P
theorem col_split (X : Vec F S32x16 .f32) :
    (own1 d lB X : sProp 𝕄) ⊢ bigSep Finset.univ fun h : Fin 16 => iprop(∃ X, colP d h X) :=
  (owns_rects (d : Thread nD τ) lB fullShare rCol (fun _ _ => rfl) rCol_disj rCol_cov X).trans
    (bigSep_mono fun h _ => ex_i (fun X => colP d h X) _)
theorem col_join (x : Dev nD → Inp F) :
    (bigSep Finset.univ fun h : Fin 16 => (colP d h (lV x d h) : sProp 𝕄)) ⊢ own1 d lB (lAll x d) := by
  have h := owns_of_rects (Ix := Unit) (Name := ℕ) (U := UU) (Lvl := ℕ) (d : Thread nD τ) lB fullShare rCol (fun _ _ => rfl) rCol_disj rCol_cov (lAll x d)
  have e (t : Fin 16) : (fun j => lAll x d ((rCol t).emb j)) = lV x d t := by
    funext j
    rw [rCol_emb]
    exact eta_col (lV x d t) j
  simp only [e] at h
  exact h
abbrev outPt (m : Memref sig .tc .vmem S32x16x128 .f32) (d : Dev nD) (h : Fin 16) (X : Vec F S32x1x128 .f32) : sProp 𝕄 :=
  own1 d (m.slice (rOut h) (fun _ => rfl)) X
theorem out_split (m : Memref sig .tc .vmem S32x16x128 .f32) (X : Vec F S32x16x128 .f32) :
    (own1 d m X : sProp 𝕄) ⊢ bigSep Finset.univ fun h : Fin 16 => iprop(∃ X, outPt m d h X) :=
  (owns_rects (d : Thread nD τ) m fullShare rOut (fun _ _ => rfl) rOut_disj rOut_cov X).trans
    (bigSep_mono fun h _ => ex_i (fun X => outPt m d h X) _)
theorem out_join (m : Memref sig .tc .vmem S32x16x128 .f32) (x : Dev nD → Inp F) :
    (bigSep Finset.univ fun h : Fin 16 => (outPt m d h (oV x d h) : sProp 𝕄)) ⊢ own1 d m (oAll x d) := by
  have h := owns_of_rects (Ix := Unit) (Name := ℕ) (U := UU) (Lvl := ℕ) (d : Thread nD τ) m fullShare rOut (fun _ _ => rfl) rOut_disj rOut_cov (oAll x d)
  have e (t : Fin 16) : (fun j => oAll x d ((rOut t).emb j)) = oV x d t := by
    funext j
    rw [rOut_emb]
    exact eta_out (oV x d t) j
  simp only [e] at h
  exact h
theorem slot_split (b : Bool) (X : Vec F S2x256x32x128 .f32) :
    (own1 d (bfM b) X : sProp 𝕄) ⊢ iprop((∃ X, slotP d b 0 X) ∗ (∃ X, slotP d b 1 X)) :=
  (owns_rects (d : Thread nD τ) (bfM b) fullShare rSlot (fun _ _ => rfl) rSlot_disj rSlot_cov X).trans
    ((bigSep_mono fun s _ => ex_i (fun X => slotP d b s X) _).trans
      (Entails.of_eq (BI.bigSep_fin_two fun s : Fin 2 => (iprop(∃ X, slotP d b s X) : sProp 𝕄))))
theorem slots_join (b : Bool) (f : Fin 2 → Vec F S1x256x32x128 .f32) :
    (bigSep Finset.univ fun s : Fin 2 => (slotP d b s (f s) : sProp 𝕄)) ⊢ iprop(∃ X, own1 d (bfM b) X) := by
  have h := owns_of_rects (Ix := Unit) (Name := ℕ) (U := UU) (Lvl := ℕ) (d : Thread nD τ) (bfM b) fullShare rSlot (fun _ _ => rfl) rSlot_disj rSlot_cov
    (fun i => f (i 0) (ix4 (0 : Fin 1) (i 1) (i 2) (i 3)) : Vec F S2x256x32x128 .f32)
  have e (t : Fin 2) : (fun j => (fun i => f (i 0) (ix4 (0 : Fin 1) (i 1) (i 2) (i 3)) : Vec F S2x256x32x128 .f32) ((rSlot t).emb j)) = f t := by
    funext j
    rw [rSlot_emb]
    exact eta_slot (f t) j
  simp only [e] at h
  exact h.trans (ex_i (fun X => own1 d (bfM b) X) _)
theorem slot_join (b : Bool) :
    iprop((∃ X, slotP d b 0 X) ∗ (∃ X, slotP d b 1 X)) ⊢ (iprop(∃ X, own1 d (bfM b) X) : sProp 𝕄) := by
  iintro ⟨⟨%X0, H0⟩, ⟨%X1, H1⟩⟩
  have h := slots_join d b (fun s => if s = 0 then X0 else X1)
  rw [BI.bigSep_fin_two] at h
  iapply (show iprop(slotP d b 0 X0 ∗ slotP d b 1 X1) ⊢ (iprop(∃ X, own1 d (bfM b) X) : sProp 𝕄) from h)
  isplitl [H0]
  · iexact H0
  · iexact H1

end Cert.KernelIdeal.Talk
-- ==== Proof.Loops.lean ====
module

public import proofs.«01_k».proof.Proof.Body
public import proofs.«01_k».proof.Proof.Parts

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit
open Cert.KernelIdeal.Gen

variable {F : FTy → Type} [FloatOps F]

local notation "𝕄" => MT nD τ sig Unit (Elt F) ℕ UU ℕ

variable (x : Dev nD → Inp F) (κ : GSem nD τ sig → ℕ) (c : Dev nD) {α : Type}

/-! ## The loop over the heads -/

abbrev slN (n : ℕ) : Fin 2 := ⟨n % 2, Nat.mod_lt _ (by decide)⟩
theorem slN_add2 (n : ℕ) : slN (n + 2) = slN n := Fin.ext (Nat.add_mod_right n 2)

/-- Before head `n`: its copy is under way, the other slot is free, the pages of the later heads are
    still to be copied, those of the earlier ones have been. -/
def kvI (b : Bool) (n : ℕ) : sProp 𝕄 :=
  iprop(flyS c b (slN n) (n / 2) ∗ freeS c b (slN (n + 1)) ((n + 1) / 2)
    ∗ (bigSep (finFrom 16 (n + 1)) fun i => iprop(kvTok c b i ∗ pageP c b i ((x c).pg b)))
    ∗ bigSep (finUpTo 16 n) fun i => pageP c b i ((x c).pg b))

def headI (qM : Memref sig .tc .vmem S16x32x128 .f32) (qs : PosShare TreeShare) (n : ℕ) : sProp 𝕄 :=
  iprop(kvI x c false n ∗ kvI x c true n ∗ (bigSep (finFrom 16 n) fun i => todoH c i) ∗ (bigSep (finUpTo 16 n) fun i => doneH x c i)
    ∗ owns (c : Thread nD τ) qM qs (x c).q ∗ ∃ W, owes (c : Thread nD τ) (oweR c n) W)

/-- After a head of the loop one page array is ready for the next head. -/
theorem kvI_step (b : Bool) (n : ℕ) (hn : n < 16) :
    iprop(flyS c b (slN (n + 1)) ((n + 1) / 2) ∗ freeS c b (slN n) (n / 2 + 1)
      ∗ (bigSep (finFrom 16 (n + 1 + 1)) fun i => iprop(kvTok c b i ∗ pageP c b i ((x c).pg b)))
      ∗ pageP c b ⟨n, hn⟩ ((x c).pg b) ∗ bigSep (finUpTo 16 n) fun i => pageP c b i ((x c).pg b)) ⊢ kvI x c b (n + 1) := by
  unfold kvI
  rw [show slN (n + 1 + 1) = slN n from slN_add2 n, show (n + 1 + 1) / 2 = n / 2 + 1 by omega,
    bigSep_finUpTo_succ hn (fun i => pageP c b i ((x c).pg b))]

theorem step_run {Q : α → sProp 𝕄} (qM : Memref sig .tc .vmem S16x32x128 .f32) (qs : PosShare TreeShare) (h : Fin 16) (hh : h.val < 15)
    (k : PUnit → PT F α) :
    iprop(records x κ ∗ levAts L lv ∗ headI x c qM qs h.val)
      ⊢ iprop((iprop(records x κ ∗ levAts L lv ∗ headI x c qM qs (h.val + 1)) -∗ wp frame (wpE (defs₀ (F := F)) 𝒱₀ c none) Set.univ (k ⟨⟩) Q)
        -∗ wp frame (wpE (defs₀ (F := F)) 𝒱₀ c none) Set.univ
          (stepP qM (pgM false) (pgM true) aB lB raB (bfM false) (bfM true) (bsM false) (bsM true) cc0_scratch8 cc0_scratch9 (x c).w c h >>= k) Q) := by
  have e1 : (h + 1 : Fin 16) = ⟨h.val + 1, by omega⟩ := Fin.ext (by rw [Fin.val_add]; exact Nat.mod_eq_of_lt (by show h.val + 1 < 16; omega))
  unfold stepP
  rw [e1]
  simp only [bind_assoc]
  unfold headI
  rw [bigSep_finFrom_succ h.isLt (fun i => todoH c i), bigSep_finUpTo_succ h.isLt (fun i => doneH x c i)]
  have t1 := kvI_step (F := F) x c false h.val h.isLt
  have t2 := kvI_step (F := F) x c true h.val h.isLt
  have f1 := fetch_run (F := F) (Q := Q) x κ c false ⟨h.val + 1, by omega⟩
  have f2 := fetch_run (F := F) (Q := Q) x κ c true ⟨h.val + 1, by omega⟩
  have o1 : (kvI x c false h.val : sProp 𝕄) ⊢ _ := Entails.of_eq (by
    unfold kvI; rw [bigSep_finFrom_succ (show h.val + 1 < 16 by omega) (fun i => iprop(kvTok c false i ∗ pageP c false i ((x c).pg false)))])
  have o2 : (kvI x c true h.val : sProp 𝕄) ⊢ _ := Entails.of_eq (by
    unfold kvI; rw [bigSep_finFrom_succ (show h.val + 1 < 16 by omega) (fun i => iprop(kvTok c true i ∗ pageP c true i ((x c).pg true)))])
  iintro ⟨#HR, #Hlev, HK, HV, ⟨Htd, Htds⟩, Hdn, Hq, HO⟩ Hk
  ihave HK := o1 $$ HK
  ihave HV := o2 $$ HV
  icases HK with ⟨HKfly, HKfree, ⟨⟨HKt, HKp⟩, HKrest⟩, HKdone⟩
  icases HV with ⟨HVfly, HVfree, ⟨⟨HVt, HVp⟩, HVrest⟩, HVdone⟩
  iapply f1 $$ [HKfree HKt HKp]
  · isplitr; · iexact HR
    isplitl [HKfree]; · iexact HKfree
    isplitl [HKt] <;> iassumption
  iintro HKfly'
  iapply f2 $$ [HVfree HVt HVp]
  · isplitr; · iexact HR
    isplitl [HVfree]; · iexact HVfree
    isplitl [HVt] <;> iassumption
  iintro HVfly'
  iapply (head_run x κ c qM qs h) $$ [HKfly HVfly Htd Hq HO]
  · isplitr; · iexact HR
    isplitr; · iexact Hlev
    isplitl [HKfly]; · iexact HKfly
    isplitl [HVfly]; · iexact HVfly
    isplitl [Htd]; · iexact Htd
    isplitl [Hq] <;> iassumption
  iintro ⟨HKfree, HVfree, HKp, HVp, Hd, Hq, HO⟩
  iapply Hk
  isplitr; · iexact HR
  isplitr; · iexact Hlev
  isplitl [HKfly' HKfree HKrest HKp HKdone]
  · iapply t1
    isplitl [HKfly']; · iexact HKfly'
    isplitl [HKfree]; · iexact HKfree
    isplitl [HKrest]; · iexact HKrest
    isplitl [HKp] <;> iassumption
  isplitl [HVfly' HVfree HVrest HVp HVdone]
  · iapply t2
    isplitl [HVfly']; · iexact HVfly'
    isplitl [HVfree]; · iexact HVfree
    isplitl [HVrest]; · iexact HVrest
    isplitl [HVp] <;> iassumption
  isplitl [Htds]; · iexact Htds
  isplitl [Hd Hdn]; · isplitl [Hd] <;> iassumption
  isplitl [Hq] <;> iassumption

/-! ## The waits for the transfers -/

/-- A wait on one of the transfers' counters, nothing being owed. -/
theorem arrive_run {Q : α → sProp 𝕄} {sem : DmaSem sig} {cl : Cls} (o : OI) (ho : osem o = .dma sem) (hc : cls (.dma sem) = cl) (hr : rnds cl = 1)
    {sp sp' : Space} {s s' : Shape} {e e' : EltTy} {src : Memref sig .tc sp' s' e'} {dst : Memref sig .tc sp s e}
    {hsrc : src.view.WordExact} {hdst : dst.view.WordExact} (hN : dst.view.dmaCredit = amt cl) (k : PUnit → PT F α) :
    iprop(records x κ ∗ cred (tallyAt ((c : Thread nD τ), .dma sem) () (amt cl)) ∗ atPos ER ((c : Thread nD τ), .dma sem) 0 ∅ 0
        ∗ ∃ W, owes (c : Thread nD τ) 0 W)
      ⊢ iprop((iprop(pay x c cl 0 ∗ atPos ER ((c : Thread nD τ), .dma sem) 1 ∅ 0 ∗ ∃ W, owes (c : Thread nD τ) 0 W)
          -∗ wp frame (wpE (defs₀ (F := F)) 𝒱₀ c none) Set.univ (k ⟨⟩) Q)
        -∗ wp frame (wpE (defs₀ (F := F)) 𝒱₀ c none) Set.univ (.op (.waitDma2 sem src dst hsrc hdst) k) Q) := by
  have hr0 : 0 < rnds cl := by omega
  have hm : 0 + dst.view.dmaCredit = (sched x).expect ((c : Thread nD τ), .dma sem) 0 :=
    (Nat.zero_add _).trans (hN.trans (expect_eq x c hc hr0).symm)
  iintro ⟨#HR, Hc, Hat, ⟨%W, HO⟩⟩ Hk
  ihave #HI := (records_own x κ c o) $$ HR
  rw [ho, ← hN]
  iapply (Rounds.wp_wait_rest_token 𝒱₀ ER (sched x) (c : Thread nD τ) none (κ := κ ((c : Thread nD τ), .dma sem))
      (wpE_waitDma2_eq 𝒱₀ (c : Thread nD τ) none Set.univ) (Set.mem_univ _) () (O := 0) (W := W) (R := 0) (m := 0) (T := ∅)
      hm) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_eq x c hc hr0)) $$ Hpay
  iapply Hk
  isplitl [Hp]; · iexact Hp
  isplitl [Hat]; · iexact Hat
  iexists _; iexact HO

/-- Before the transfers of head `i` are waited for. -/
def awaitH (i : Fin 16) : sProp 𝕄 :=
  iprop(cred (tallyAt (sndCell c i.castSucc) () NA) ∗ atPos ER (sndCell c i.castSucc) 0 ∅ 0
    ∗ cred (tallyAt (rcvCell c i.castSucc) () NA) ∗ atPos ER (rcvCell c i.castSucc) 0 ∅ 0)
/-- After. -/
def hereH (i : Fin 16) : sProp 𝕄 :=
  iprop((accP aB c i (aV x c i) ∗ accP raB c i (aV x (pr c) i))
    ∗ atPos ER (sndCell c i.castSucc) 1 ∅ 0 ∗ atPos ER (rcvCell c i.castSucc) 1 ∅ 0)
def joinI (n : ℕ) : sProp 𝕄 :=
  iprop((bigSep (finFrom 16 n) fun i => awaitH c i) ∗ (bigSep (finUpTo 16 n) fun i => hereH x c i) ∗ ∃ W, owes (c : Thread nD τ) 0 W)

theorem join_run {Q : α → sProp 𝕄} (h : Fin 16) (k : PUnit → PT F α) :
    iprop(records x κ ∗ joinI x c h.val)
      ⊢ iprop((iprop(records x κ ∗ joinI x c (h.val + 1)) -∗ wp frame (wpE (defs₀ (F := F)) 𝒱₀ c none) Set.univ (k ⟨⟩) Q)
        -∗ wp frame (wpE (defs₀ (F := F)) 𝒱₀ c none) Set.univ (joinP aB raB cc0_scratch8 cc0_scratch9 h >>= k) Q) := by
  unfold joinP
  simp only [bind_assoc, Prog.bind_lift]
  unfold joinI
  rw [bigSep_finFrom_succ h.isLt (fun i => awaitH c i), bigSep_finUpTo_succ h.isLt (fun i => hereH x c i)]
  have n1 : amt (.snd h.castSucc) = NA := nS_castSucc h
  have n2 : amt (.rcv h.castSucc) = NA := nS_castSucc h
  have p1 : (pay x c (.snd h.castSucc) 0 : sProp 𝕄) = accP aB c h (aV x c h) := sndPay_head x c h
  have p2 : (pay x c (.rcv h.castSucc) 0 : sProp 𝕄) = accP raB c h (aV x (pr c) h) := rcvPay_head x c h
  have a1 := fun k => arrive_run (F := F) (Q := Q) x κ c (.inr (.inl h.castSucc)) rfl (cls_snd h.castSucc) rfl
    (src := accV raB h) (dst := accV aB h) (hsrc := (View.wordExact_bits rfl).reshape _ _) (hdst := (View.wordExact_bits rfl).reshape _ _)
    ((NA_eq aB h).trans n1.symm) k
  have a2 := fun k => arrive_run (F := F) (Q := Q) x κ c (.inr (.inr h.castSucc)) rfl (cls_rcv h.castSucc) rfl
    (src := accV aB h) (dst := accV raB h) (hsrc := (View.wordExact_bits rfl).reshape _ _) (hdst := (View.wordExact_bits rfl).reshape _ _)
    ((NA_eq raB h).trans n2.symm) k
  rw [n1, p1] at a1
  rw [n2, p2] at a2
  have w1 : (awaitH c h : sProp 𝕄) ⊢ iprop(cred (tallyAt (sndCell c h.castSucc) () NA) ∗ atPos ER (sndCell c h.castSucc) 0 ∅ 0
    ∗ cred (tallyAt (rcvCell c h.castSucc) () NA) ∗ atPos ER (rcvCell c h.castSucc) 0 ∅ 0) := .rfl
  iintro ⟨#HR, ⟨Ha, Hrest⟩, Hdone, HO⟩ Hk
  ihave Ha := w1 $$ Ha
  icases Ha with ⟨Hc1, Hat1, Hc2, Hat2⟩
  iapply a1 $$ [Hc1 Hat1 HO]
  · isplitr; · iexact HR
    isplitl [Hc1]; · iexact Hc1
    isplitl [Hat1] <;> iassumption
  iintro ⟨Hp1, Hat1, HO⟩
  iapply a2 $$ [Hc2 Hat2 HO]
  · isplitr; · iexact HR
    isplitl [Hc2]; · iexact Hc2
    isplitl [Hat2] <;> iassumption
  iintro ⟨Hp2, Hat2, HO⟩
  iapply Hk
  isplitr; · iexact HR
  isplitl [Hrest]; · iexact Hrest
  isplitr [HO]
  · isplitr [Hdone]
    · unfold hereH
      isplitl [Hp1 Hp2]; · isplitl [Hp1] <;> iassumption
      isplitl [Hat1] <;> iassumption
    · iexact Hdone
  · iexact HO

/-! ## The loop that writes the result -/

def outI (oM : Memref sig .tc .vmem S32x16x128 .f32) (n : ℕ) : sProp 𝕄 :=
  iprop((bigSep (finFrom 16 n) fun i => iprop((accP aB c i (aV x c i) ∗ accP raB c i (aV x (pr c) i)) ∗ ∃ X, outPt oM c i X))
    ∗ bigSep (finUpTo 16 n) fun i => iprop((accP aB c i (aV x c i) ∗ accP raB c i (aV x (pr c) i)) ∗ outPt oM c i (oV x c i)))

theorem out_run {Q : α → sProp 𝕄} (oM : Memref sig .tc .vmem S32x16x128 .f32) (h : Fin 16) (k : PUnit → PT F α) :
    outI x c oM h.val
      ⊢ iprop((outI x c oM (h.val + 1) -∗ wp frame (wpE (defs₀ (F := F)) 𝒱₀ c none) Set.univ (k ⟨⟩) Q)
        -∗ wp frame (wpE (defs₀ (F := F)) 𝒱₀ c none) Set.univ (outP oM aB raB (lAll x c) (lAll x (pr c)) h >>= k) Q) := by
  unfold outP
  simp only [bind_assoc, Prog.bind_lift]
  unfold outI
  rw [bigSep_finFrom_succ h.isLt (fun i => iprop((accP aB c i (aV x c i) ∗ accP raB c i (aV x (pr c) i)) ∗ ∃ X, outPt oM c i X)),
    bigSep_finUpTo_succ h.isLt (fun i => iprop((accP aB c i (aV x c i) ∗ accP raB c i (aV x (pr c) i)) ∗ outPt oM c i (oV x c i)))]
  iintro ⟨⟨⟨⟨Ha, Hra⟩, ⟨%X, Ho⟩⟩, Hrest⟩, Hdone⟩ Hk
  iapply (load_part c (aV x c h)) $$ Ha
  iintro Ha
  iapply (load_part c (aV x (pr c) h)) $$ Hra
  iintro Hra
  iapply (load_part c X) $$ Ho
  iintro Ho
  iapply (store_part c X) $$ Ho
  iintro Ho
  iapply Hk
  isplitl [Hrest]; · iexact Hrest
  isplitr [Hdone]
  · isplitl [Ha Hra]; · isplitl [Ha] <;> iassumption
    iexact Ho
  · iexact Hdone

end Cert.KernelIdeal.Talk
-- ==== Proof.Run.lean ====
module

public import proofs.«01_k».proof.Proof.Loops
public import Idealize.ShloMosaic.Harness.Basic
public import Idealize.ShloMosaic.Lib.VecWindow

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit
open Cert.KernelIdeal.Gen

variable {F : FTy → Type} [FloatOps F]

local notation "𝕄" => MT nD τ sig Unit (Elt F) ℕ UU ℕ

/-! ## Families over the counters -/

theorem sep17 (Φ : Fin 17 → sProp 𝕄) :
    bigSep Finset.univ Φ = iprop(Φ 16 ∗ bigSep Finset.univ fun h : Fin 16 => Φ h.castSucc) := by
  rw [Fin.univ_castSuccEmb, Finset.cons_eq_insert, bigSep_insert (by
    rw [Finset.mem_map]; rintro ⟨i, -, h⟩; exact absurd h (Fin.castSucc_lt_last i).ne), bigSep_map]
  rfl

theorem sepBool (Φ : Bool → sProp 𝕄) : bigSep Finset.univ Φ = iprop(Φ false ∗ Φ true) := by
  rw [show (Finset.univ : Finset Bool) = {false, true} from by decide, bigSep_insert (by decide), bigSep_singleton]
  rfl

theorem sepOI (Φ : OI → sProp 𝕄) : bigSep Finset.univ Φ
    = iprop(((Φ (.inl (false, 0)) ∗ Φ (.inl (false, 1))) ∗ (Φ (.inl (true, 0)) ∗ Φ (.inl (true, 1))))
      ∗ (Φ (.inr (.inl 16)) ∗ bigSep Finset.univ fun h : Fin 16 => Φ (.inr (.inl h.castSucc)))
      ∗ (Φ (.inr (.inr 16)) ∗ bigSep Finset.univ fun h : Fin 16 => Φ (.inr (.inr h.castSucc)))) := by
  rw [BI.bigSep_univ_sum, BI.bigSep_univ_sum, BI.bigSep_univ_prod, sepBool, BI.bigSep_fin_two, BI.bigSep_fin_two, sep17, sep17]
  rfl

variable (x : Dev nD → Inp F) (κ : GSem nD τ sig → ℕ) (c : Dev nD)

/-! ## Closing the counters -/

theorem close_own (k : OI) : iprop(records x κ ∗ atPos ER ((c : Thread nD τ), osem k) (rnds (ocls k)) ∅ 0)
    ⊢ (|={Set.univ}=> semVal ((c : Thread nD τ), osem k) 0 : sProp 𝕄) := by
  have h := Rounds.cell_close ER (sched x) (g := ((c : Thread nD τ), osem k)) (Set.mem_univ (κ ((c : Thread nD τ), osem k))) id (duties_later x c (cls_osem k))
  have e : rnds (ocls k) = rnds (ocls k) - 1 + 1 := by
    rcases k with ⟨b, s⟩ | i | i <;> rfl
  iintro ⟨#HR, Hat⟩
  iapply h
  isplitr
  · iapply (records_own x κ c k); iexact HR
  · iexact Hat

theorem close_bar : iprop(records x κ ∗ atPos ER (barCell c) 1 ∅ 0)
    ⊢ (|={Set.univ}=> semVal (barCell c) 0 : sProp 𝕄) := by
  have h := Rounds.cell_close ER (sched x) (g := barCell c) (Set.mem_univ (κ (barCell c))) id (duties_later x c cls_bar)
  iintro ⟨#HR, Hat⟩
  iapply h
  isplitr
  · iapply (records_bar x κ c); iexact HR
  · iexact Hat

theorem close_all : iprop(records x κ ∗ bigSep Finset.univ fun k : OI => atPos ER ((c : Thread nD τ), osem k) (rnds (ocls k)) ∅ 0)
    ⊢ (|={Set.univ}=> Pipeline.ownSems0 osem c : sProp 𝕄) :=
  (bigSep_with_persistent fun k _ => close_own x κ c k).trans (bigSep_fupd _ _)

/-! ## What the body starts with and what it leaves -/

/-- The counters opened, the tokens, the credit. -/
def opened : sProp 𝕄 :=
  iprop(atPos ER (barCell c) 0 ∅ 0 ∗ (bigSep Finset.univ fun k : OI => iprop(atPos ER ((c : Thread nD τ), osem k) 0 ∅ 0 ∗ reached ER ((c : Thread nD τ), osem k) 0))
    ∗ dutyTok ER (barCell (pr c)) 0 () ∗ (bigSep Finset.univ fun h : Fin 16 => kvTok c false h) ∗ (bigSep Finset.univ fun h : Fin 16 => kvTok c true h)
    ∗ (bigSep Finset.univ fun i : Fin 17 => dutyTok ER (sndCell c i) 0 ()) ∗ (bigSep Finset.univ fun i : Fin 17 => dutyTok ER (rcvCell (pr c) i) 0 ())
    ∗ cred (tallyAt (barCell c) () 1) ∗ bigSep Finset.univ fun i : Fin 17 => cred (tallyAt (rcvCell c i) () (nS i)))

/-- The scratch buffers, at contents not chosen. -/
def scratch : sProp 𝕄 :=
  iprop((∃ X : Vec F S16x32x128 .f32, own1 c aB X) ∗ (∃ X : Vec F S32x16 .f32, own1 c lB X) ∗ (∃ X : Vec F S16x32x128 .f32, own1 c raB X) ∗ (∃ X : Vec F S32x16 .f32, own1 c rlB X)
    ∗ (∃ X : Vec F S2x256x32x128 .f32, own1 c (bfM false) X) ∗ (∃ X : Vec F S2x256x32x128 .f32, own1 c (bfM true) X))

section ends
variable (qM : Memref sig .tc .vmem S16x32x128 .f32) (wM : Memref sig .tc .vmem S32x8192 .f32) (oM : Memref sig .tc .vmem S32x16x128 .f32)
  (qs ws : PosShare TreeShare)

def bodyPre : sProp 𝕄 :=
  iprop(records x κ ∗ levAts L lv ∗ opened c ∗ scratch c ∗ owns (c : Thread nD τ) qM qs (x c).q ∗ owns (c : Thread nD τ) wM ws (x c).w
    ∗ own1 c (pgM false) ((x c).pg false) ∗ own1 c (pgM true) ((x c).pg true) ∗ (∃ X : Vec F S32x16x128 .f32, own1 c oM X)
    ∗ ∃ W, owes (c : Thread nD τ) (O₀ c) W)

def bodyPost : sProp 𝕄 :=
  iprop(semVal (barCell c) 0 ∗ Pipeline.ownSems0 osem c ∗ scratch c ∗ owns (c : Thread nD τ) qM qs (x c).q ∗ owns (c : Thread nD τ) wM ws (x c).w
    ∗ own1 c (pgM false) ((x c).pg false) ∗ own1 c (pgM true) ((x c).pg true) ∗ own1 c oM (oAll x c)
    ∗ ∃ W, owes (c : Thread nD τ) (0 : CellTallies nD τ sig Unit) W)

/-! ## Regrouping -/

/-- A page array with the right to copy its heads, the first head first. -/
theorem kv_start (b : Bool) : iprop((bigSep Finset.univ fun h : Fin 16 => kvTok c b h) ∗ own1 c (pgM b) ((x c).pg b))
    ⊢ (iprop((kvTok c b 0 ∗ pageP c b 0 ((x c).pg b)) ∗ bigSep (finFrom 16 1) fun i => iprop(kvTok c b i ∗ pageP c b i ((x c).pg b))) : sProp 𝕄) := by
  have h : (bigSep Finset.univ fun i : Fin 16 => (iprop(kvTok c b i ∗ pageP c b i ((x c).pg b)) : sProp 𝕄))
      = iprop((kvTok c b 0 ∗ pageP c b 0 ((x c).pg b)) ∗ bigSep (finFrom 16 1) fun i => iprop(kvTok c b i ∗ pageP c b i ((x c).pg b))) := by
    rw [← bigSep_finFrom_zero, bigSep_finFrom_succ (by decide : 0 < 16)]
    rfl
  rw [← h, bigSep_sep']
  exact sep_mono_right (page_split c b _)

/-- What the heads need, from the buffers' parts. -/
theorem todo_intro : iprop((∃ X : Vec F S32x16 .f32, own1 c lB X) ∗ (∃ X : Vec F S16x32x128 .f32, own1 c aB X)
      ∗ (bigSep Finset.univ fun i : Fin 16 => iprop(∃ X, accP raB (pr c) i X))
      ∗ (bigSep Finset.univ fun h : Fin 16 => dutyTok ER (sndCell c h.castSucc) 0 ()) ∗ (bigSep Finset.univ fun h : Fin 16 => reached ER (sndCell c h.castSucc) 0)
      ∗ (bigSep Finset.univ fun h : Fin 16 => dutyTok ER (rcvCell (pr c) h.castSucc) 0 ()) ∗ (bigSep Finset.univ fun h : Fin 16 => reached ER (rcvCell (pr c) h.castSucc) 0))
    ⊢ (bigSep (finFrom 16 0) fun i => todoH c i : sProp 𝕄) := by
  unfold todoH
  rw [bigSep_finFrom_zero, bigSep_sep', bigSep_sep', bigSep_sep', bigSep_sep', bigSep_sep', bigSep_sep']
  iintro ⟨⟨%X, Hl⟩, ⟨%Y, Ha⟩, H⟩
  ihave Hl := (col_split c X) $$ Hl
  ihave Ha := (acc_split c aB Y) $$ Ha
  isplitl [Hl]; · iexact Hl
  isplitl [Ha]; · iexact Ha
  iexact H

end ends

end Cert.KernelIdeal.Talk
-- ==== Proof.BodyRun.lean ====
module

public import proofs.«01_k».proof.Proof.Run

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit
open Cert.KernelIdeal.Gen

variable {F : FTy → Type} [FloatOps F]

local notation "𝕄" => MT nD τ sig Unit (Elt F) ℕ UU ℕ

variable (x : Dev nD → Inp F) (κ : GSem nD τ sig → ℕ) (c : Dev nD)

/-- The load of a whole memref. -/
theorem load_all {α : Type} {Q : α → sProp 𝕄} {s : Shape} {e : EltTy} (m : Memref sig .tc .vmem s e) {off : Fin s.rank → ℕ}
    {inb : ∀ a, off a + s.size a ≤ s.size a} {hl : m.view.LoadsAt (Rect.unit (s := s) off s.size inb).toLoadRect}
    {k : (s.Idx → Elt F e) → PT F α} {q : PosShare TreeShare} (X : s.Idx → Elt F e) :
    owns (c : Thread nD τ) m q X
      ⊢ iprop((owns (c : Thread nD τ) m q X -∗ wp frame (wpE (defs₀ (F := F)) 𝒱₀ c none) Set.univ (k X) Q)
        -∗ wp frame (wpE (defs₀ (F := F)) 𝒱₀ c none) Set.univ (.op (.load m (Rect.unit (s := s) off s.size inb).toLoadRect hl) k) Q) := by
  have h := load_rect (Q := Q) c (m := m) (r := Rect.unit (s := s) off s.size inb) (hl := hl) (k := k) (q := q) X
  rw [show (fun j => X ((Rect.unit (s := s) off s.size inb).emb j)) = X from funext fun j => congrArg X (Rect.emb_unit_full inb j)] at h
  exact h

variable [∀ e, Nonempty (Elt F e)]

theorem kv_end (b : Bool) : iprop(freeS c b (slN (15 + 1)) ((15 + 1) / 2) ∗ freeS c b (sl 15) (15 / 2 + 1)
      ∗ pageP c b 15 ((x c).pg b) ∗ bigSep (finUpTo 16 15) fun i => pageP c b i ((x c).pg b))
    ⊢ (iprop((atPos ER (kvCell c b 0) 8 ∅ 0 ∗ atPos ER (kvCell c b 1) 8 ∅ 0) ∗ (∃ X : Vec F S2x256x32x128 .f32, own1 c (bfM b) X)
      ∗ own1 c (pgM b) ((x c).pg b)) : sProp 𝕄) := by
  have h : (bigSep Finset.univ fun i : Fin 16 => (pageP c b i ((x c).pg b) : sProp 𝕄))
      = iprop(pageP c b 15 ((x c).pg b) ∗ bigSep (finUpTo 16 15) fun i => pageP c b i ((x c).pg b)) := by
    rw [← bigSep_finUpTo_self, bigSep_finUpTo_succ (by decide : 15 < 16)]
    rfl
  have j := page_join c b ((x c).pg b)
  rw [h] at j
  have j2 := slot_join (F := F) c b
  unfold freeS
  iintro ⟨⟨H0, A0, -⟩, ⟨H1, A1, -⟩, Hp⟩
  isplitl [A0 A1]
  · isplitl [A0]; · iexact A0
    iexact A1
  isplitr [Hp]
  · iapply j2
    isplitl [H0]; · iexact H0
    iexact H1
  · iapply j $$ Hp

section ends
variable (qM : Memref sig .tc .vmem S16x32x128 .f32) (wM : Memref sig .tc .vmem S32x8192 .f32) (oM : Memref sig .tc .vmem S32x16x128 .f32)
  (qs ws : PosShare TreeShare)

theorem await_intro : iprop((bigSep (finUpTo 16 16) fun h : Fin 16 => cred (tallyAt (sndCell c h.castSucc) () NA))
      ∗ (bigSep Finset.univ fun h : Fin 16 => atPos ER (sndCell c h.castSucc) 0 ∅ 0)
      ∗ (bigSep Finset.univ fun h : Fin 16 => cred (tallyAt (rcvCell c h.castSucc) () (nS h.castSucc)))
      ∗ (bigSep Finset.univ fun h : Fin 16 => atPos ER (rcvCell c h.castSucc) 0 ∅ 0))
    ⊢ (bigSep (finFrom 16 0) fun i => awaitH c i : sProp 𝕄) := by
  unfold awaitH
  simp only [nS_castSucc]
  rw [bigSep_finFrom_zero, bigSep_finUpTo_self, bigSep_sep', bigSep_sep', bigSep_sep']

theorem out_intro (X : Vec F S32x16x128 .f32) :
    iprop((bigSep Finset.univ fun i : Fin 16 => iprop(accP aB c i (aV x c i) ∗ accP raB c i (aV x (pr c) i))) ∗ own1 c oM X)
    ⊢ outI x c oM 0 := by
  unfold outI
  rw [bigSep_finFrom_zero, bigSep_finUpTo_zero]
  simp only [bigSep_sep']
  iintro ⟨H, Ho⟩
  ihave Ho := (out_split c oM X) $$ Ho
  isplitl [H Ho]
  · isplitl [H] <;> iassumption
  · iempintro

theorem out_elim : outI x c oM 16 ⊢ (iprop((∃ X : Vec F S16x32x128 .f32, own1 c aB X) ∗ (∃ X : Vec F S16x32x128 .f32, own1 c raB X) ∗ own1 c oM (oAll x c)) : sProp 𝕄) := by
  unfold outI
  rw [bigSep_finUpTo_self]
  simp only [bigSep_sep']
  iintro ⟨-, ⟨⟨Ha, Hra⟩, Ho⟩⟩
  isplitl [Ha]
  · iapply (acc_join c aB (fun i => aV x c i)) $$ Ha
  isplitl [Hra]
  · iapply (acc_join c raB (fun i => aV x (pr c) i)) $$ Hra
  · iapply (out_join c oM x) $$ Ho

theorem here_elim : (bigSep (finUpTo 16 16) fun i => hereH x c i)
    ⊢ (iprop((bigSep Finset.univ fun i : Fin 16 => iprop(accP aB c i (aV x c i) ∗ accP raB c i (aV x (pr c) i)))
      ∗ (bigSep Finset.univ fun h : Fin 16 => atPos ER (sndCell c h.castSucc) 1 ∅ 0) ∗ (bigSep Finset.univ fun h : Fin 16 => atPos ER (rcvCell c h.castSucc) 1 ∅ 0)) : sProp 𝕄) := by
  unfold hereH
  rw [bigSep_finUpTo_self]
  simp only [bigSep_sep']
  exact .rfl

/-- What the loop over the heads starts with. -/
theorem head_intro :
    iprop((flyS c false (sl 0) ((0 : Fin 16).val / 2) ∗ freeS c false 1 0 ∗ bigSep (finFrom 16 1) fun i => iprop(kvTok c false i ∗ pageP c false i ((x c).pg false)))
      ∗ (flyS c true (sl 0) ((0 : Fin 16).val / 2) ∗ freeS c true 1 0 ∗ bigSep (finFrom 16 1) fun i => iprop(kvTok c true i ∗ pageP c true i ((x c).pg true)))
      ∗ (bigSep (finFrom 16 0) fun i => todoH c i) ∗ owns (c : Thread nD τ) qM qs (x c).q ∗ ∃ W, owes (c : Thread nD τ) (oweR c 0) W)
    ⊢ (headI x c qM qs 0 : sProp 𝕄) := by
  unfold headI kvI
  rw [bigSep_finUpTo_zero, bigSep_finUpTo_zero, bigSep_finUpTo_zero]
  iintro ⟨⟨A1, A2, A3⟩, ⟨B1, B2, B3⟩, Ht, Hq, HO⟩
  isplitl [A1 A2 A3]
  · isplitl [A1]; · iexact A1
    isplitl [A2]; · iexact A2
    isplitl [A3]; · iexact A3
    iempintro
  isplitl [B1 B2 B3]
  · isplitl [B1]; · iexact B1
    isplitl [B2]; · iexact B2
    isplitl [B3]; · iexact B3
    iempintro
  isplitl [Ht]; · iexact Ht
  isplitr; · iempintro
  isplitl [Hq]; · iexact Hq
  iexact HO

/-- What it ends with, the last head still to be taken. -/
theorem head_last : (headI x c qM qs 15 : sProp 𝕄) ⊢
    iprop((flyS c false (sl 15) ((15 : Fin 16).val / 2) ∗ freeS c false (slN (15 + 1)) ((15 + 1) / 2) ∗ bigSep (finUpTo 16 15) fun i => pageP c false i ((x c).pg false))
      ∗ (flyS c true (sl 15) ((15 : Fin 16).val / 2) ∗ freeS c true (slN (15 + 1)) ((15 + 1) / 2) ∗ bigSep (finUpTo 16 15) fun i => pageP c true i ((x c).pg true))
      ∗ todoH c 15 ∗ (bigSep (finUpTo 16 15) fun i => doneH x c i) ∗ owns (c : Thread nD τ) qM qs (x c).q ∗ ∃ W, owes (c : Thread nD τ) (oweR c (15 : Fin 16).val) W) := by
  unfold headI kvI
  rw [bigSep_finFrom_succ (show 15 < 16 by decide) (fun i => todoH c i)]
  iintro ⟨⟨A1, A2, -, A4⟩, ⟨B1, B2, -, B4⟩, ⟨Ht, -⟩, Hd, Hq, HO⟩
  isplitl [A1 A2 A4]
  · isplitl [A1]; · iexact A1
    isplitl [A2]; · iexact A2
    iexact A4
  isplitl [B1 B2 B4]
  · isplitl [B1]; · iexact B1
    isplitl [B2]; · iexact B2
    iexact B4
  isplitl [Ht]; · iexact Ht
  isplitl [Hd]; · iexact Hd
  isplitl [Hq]; · iexact Hq
  iexact HO

theorem done_elim : iprop(doneH x c 15 ∗ bigSep (finUpTo 16 15) fun i => doneH x c i)
    ⊢ (iprop(own1 c lB (lAll x c) ∗ bigSep (finUpTo 16 16) fun h : Fin 16 => cred (tallyAt (sndCell c h.castSucc) () NA)) : sProp 𝕄) := by
  have h : (bigSep (finUpTo 16 16) fun i : Fin 16 => (doneH x c i : sProp 𝕄)) = iprop(doneH x c 15 ∗ bigSep (finUpTo 16 15) fun i => doneH x c i) := by
    rw [bigSep_finUpTo_succ (by decide : 15 < 16)]
    rfl
  rw [← h]
  unfold doneH
  rw [bigSep_sep', bigSep_finUpTo_self, bigSep_finUpTo_self]
  exact sep_mono_left (col_join c x)

theorem join_intro : iprop((bigSep (finFrom 16 0) fun i => awaitH c i) ∗ ∃ W, owes (c : Thread nD τ) 0 W) ⊢ (joinI x c 0 : sProp 𝕄) := by
  unfold joinI
  rw [bigSep_finUpTo_zero]
  iintro ⟨Ha, HO⟩
  isplitl [Ha]; · iexact Ha
  isplitr; · iempintro
  iexact HO

theorem join_elim : (joinI x c 16 : sProp 𝕄) ⊢ iprop((bigSep (finUpTo 16 16) fun i => hereH x c i) ∗ ∃ W, owes (c : Thread nD τ) 0 W) := by
  unfold joinI
  iintro ⟨-, H, HO⟩
  isplitl [H] <;> iassumption

/-- The counters at their last rounds. -/
theorem at_end : iprop((((atPos ER (kvCell c false 0) 8 ∅ 0 ∗ atPos ER (kvCell c false 1) 8 ∅ 0) ∗ (atPos ER (kvCell c true 0) 8 ∅ 0 ∗ atPos ER (kvCell c true 1) 8 ∅ 0))
      ∗ (atPos ER (sndCell c 16) 1 ∅ 0 ∗ bigSep Finset.univ fun h : Fin 16 => atPos ER (sndCell c h.castSucc) 1 ∅ 0)
      ∗ (atPos ER (rcvCell c 16) 1 ∅ 0 ∗ bigSep Finset.univ fun h : Fin 16 => atPos ER (rcvCell c h.castSucc) 1 ∅ 0)))
    ⊢ (bigSep Finset.univ fun k : OI => atPos ER ((c : Thread nD τ), osem k) (rnds (ocls k)) ∅ 0 : sProp 𝕄) := by
  rw [sepOI]
  exact .rfl

set_option maxHeartbeats 3200000 in
theorem body_run (hl : lB.IsWhole) (hrl : rlB.IsWhole) (Kt : PUnit → sProp 𝕄) :
    iprop(bodyPre x κ c qM wM oM qs ws ∗ (bodyPost x c qM wM oM qs ws -∗ Kt ⟨⟩))
      ⊢ wp frame (wpE (defs₀ (F := F)) 𝒱₀ c none) Set.univ
          (bodyP (F := F) qM wM (pgM false) (pgM true) oM aB lB raB rlB (bfM false) (bfM true) (bsM false) (bsM true) cc0_scratch8 cc0_scratch9 hl hrl) Kt := by
  unfold bodyP
  rw [← bind_pure (Prog.lift _ >>= _)]
  simp only [bind_assoc, Prog.bind_lift, semSignalWord, semWaitWord, Prog.bind_op, Prog.bind_ret, wp_deviceId]
  unfold bodyPre opened scratch
  rw [sepOI, sep17, sep17, sep17]
  have s1 := kv_start (F := F) x c false
  have s2 := kv_start (F := F) x c true
  iintro ⟨⟨#HR, #Hlev, ⟨HatB, ⟨⟨⟨⟨Hk00, #Hr00⟩, ⟨Hk01, #Hr01⟩⟩, ⟨⟨Hk10, #Hr10⟩, ⟨Hk11, #Hr11⟩⟩⟩, ⟨⟨HsL, #HrsL⟩, Hss⟩, ⟨⟨HrL, #HrrL⟩, Hrs⟩⟩, HtB, HtK, HtV, ⟨HtsL, Htss⟩, ⟨HtrL, Htrs⟩, HcB, ⟨HcrL, Hcrs⟩⟩,
    ⟨Ha, Hl, ⟨%Xra, Hra⟩, ⟨%Xrl, Hrl⟩, ⟨%Xk, Hbk⟩, ⟨%Xv, Hbv⟩⟩, Hq, Hw, HK, HV, ⟨%Xo, Ho⟩, ⟨%W, HO⟩⟩, Hk⟩
  ihave Hss := (Entails.of_eq (bigSep_sep' _ _ _)) $$ Hss
  icases Hss with ⟨Hss, #Hrss⟩
  ihave Hrs := (Entails.of_eq (bigSep_sep' _ _ _)) $$ Hrs
  icases Hrs with ⟨Hrs, #Hrrs⟩
  ihave HK := s1 $$ [HtK HK]
  · isplitl [HtK] <;> iassumption
  ihave HV := s2 $$ [HtV HV]
  · isplitl [HtV] <;> iassumption
  icases HK with ⟨⟨HKt, HKp⟩, HKs⟩
  icases HV with ⟨⟨HVt, HVp⟩, HVs⟩
  ihave Hbk := (slot_split c false Xk) $$ Hbk
  ihave Hbv := (slot_split c true Xv) $$ Hbv
  icases Hbk with ⟨Hbk0, Hbk1⟩
  icases Hbv with ⟨Hbv0, Hbv1⟩
  iapply (fetch_run x κ c false 0) $$ [HKt HKp Hbk0 Hk00]
  · isplitr; · iexact HR
    isplitl [Hbk0 Hk00]
    · unfold freeS
      isplitl [Hbk0]; · iexact Hbk0
      isplitl [Hk00]; · iexact Hk00
      iexact Hr00
    isplitl [HKt] <;> iassumption
  iintro HKfly
  iapply (fetch_run x κ c true 0) $$ [HVt HVp Hbv0 Hk10]
  · isplitr; · iexact HR
    isplitl [Hbv0 Hk10]
    · unfold freeS
      isplitl [Hbv0]; · iexact Hbv0
      isplitl [Hk10]; · iexact Hk10
      iexact Hr10
    isplitl [HVt] <;> iassumption
  iintro HVfly
  -- the partner may now write into this device's landing buffers
  ihave Hra := (acc_split c raB Xra) $$ Hra
  have hdB := mem_duties x (pr c) cls_bar (r := 0) Nat.one_pos
  have haB : (sched x).amount (barCell (pr c)) 0 () = 1 := amount_eq x (pr c) cls_bar 0
  have hpB : (sched (F := F) x).payload (barCell (pr c)) 0 () = barPay (pr c) := payload_eq x (pr c) cls_bar 0
  ihave #HIBp := (records_bar x κ (pr c)) $$ HR
  ihave #HIB := (records_bar x κ c) $$ HR
  iapply (Rounds.wp_signal 𝒱₀ ER (sched x) (c : Thread nD τ) none (dst := (pr c : Thread nD τ)) (sem := barS) (r := 0) (d := ()) (κ := κ (barCell (pr c)))
      hdB haB () (oweR c 0) rfl) $$ [HO HtB Hra Hrl]
  · isplitr; · iexact HIBp
    isplitl [HO]; · iexact HO
    isplitl [HtB]; · iexact HtB
    isplitl [Hra Hrl]
    · rw [hpB]; unfold barPay; rw [pr_pr, sep17]
      isplitl [Hra]; · iexact Hra
      isplitl [Hrl]; · iexists _; iexact Hrl
      isplitr; · iexact HrrL
      iexact Hrrs
    · iapply (records_reached x κ (pr c)); iexact HR
  iintro HO
  have hB1 : 0 + 1 = (sched x).expect (barCell c) 0 := (expect_eq x c cls_bar (r := 0) Nat.one_pos).symm
  have hlB : lvC (cls (.reg barS)) ≤ 1 := Nat.le_refl 1
  iapply (Rounds.wp_wait_rest_token 𝒱₀ ER (sched x) (c : Thread nD τ) none (κ := κ (barCell c))
      (wpE_semWait_eq 𝒱₀ (c : Thread nD τ) none Set.univ) (Set.mem_univ _) () (O := oweR c 0) (W := W) (R := 0) (m := 0) (T := ∅)
      hB1) $$ [HcB HO HatB]
  · isplitr; · iexact HIB
    isplitl [HcB]; · iexact HcB
    isplitl [HO]; · iexact HO
    isplitr; · iapply (mayWait c 0 hlB); iexact Hlev
    iexact HatB
  iintro ⟨HO, HatB, -, Hpay⟩
  ihave Hp := (Entails.of_eq (rest_eq x c cls_bar (r := 0) Nat.one_pos)) $$ Hpay
  ihave Hp := (show pay x c .bar 0 ⊢ barPay c from .rfl) $$ Hp
  unfold barPay
  rw [sep17]
  icases Hp with ⟨Hpra, ⟨%Xrl', Hprl⟩, ⟨#HprL, #Hprs⟩⟩
  iapply (load_all c wM (x c).w) $$ Hw
  iintro Hw
  -- the heads
  ihave Htd := (todo_intro (F := F) c) $$ [Hl Ha Hpra Htss Htrs]
  · isplitl [Hl]; · iexact Hl
    isplitl [Ha]; · iexact Ha
    isplitl [Hpra]; · iexact Hpra
    isplitl [Htss]; · iexact Htss
    isplitr; · iexact Hrss
    isplitl [Htrs]; · iexact Htrs
    iexact Hprs
  ihave Hin := (head_intro x c qM qs) $$ [HKfly HVfly Hbk1 Hbv1 Hk01 Hk11 HKs HVs Htd Hq HO]
  · unfold freeS
    isplitl [HKfly Hbk1 Hk01 HKs]
    · isplitl [HKfly]; · iexact HKfly
      isplitr [HKs]
      · isplitl [Hbk1]; · iexact Hbk1
        isplitl [Hk01]; · iexact Hk01
        iexact Hr01
      · iexact HKs
    isplitl [HVfly Hbv1 Hk11 HVs]
    · isplitl [HVfly]; · iexact HVfly
      isplitr [HVs]
      · isplitl [Hbv1]; · iexact Hbv1
        isplitl [Hk11]; · iexact Hk11
        iexact Hr11
      · iexact HVs
    isplitl [Htd]; · iexact Htd
    isplitl [Hq]; · iexact Hq
    iexists _; iexact HO
  iapply (loop_run c _ (fun n => iprop(records x κ ∗ levAts L lv ∗ headI x c qM qs n)) 15 (fun h hh k => step_run x κ c qM qs h hh k) 15 0 _ (by decide)) $$ [Hin]
  · isplitr; · iexact HR
    isplitr; · iexact Hlev
    iexact Hin
  iintro ⟨-, -, Hin⟩
  ihave Hin := (head_last x c qM qs) $$ Hin
  icases Hin with ⟨⟨A1, A2, A3⟩, ⟨B1, B2, B3⟩, Htd, Hdn, Hq, HO⟩
  iapply (head_run x κ c qM qs 15) $$ [A1 B1 Htd Hq HO]
  · isplitr; · iexact HR
    isplitr; · iexact Hlev
    isplitl [A1]; · iexact A1
    isplitl [B1]; · iexact B1
    isplitl [Htd]; · iexact Htd
    isplitl [Hq]; · iexact Hq
    iexact HO
  iintro ⟨A1, B1, A4, B4, Hd, Hq, ⟨%W1, HO⟩⟩
  ihave HA := (kv_end x c false) $$ [A1 A2 A3 A4]
  · isplitl [A2]; · iexact A2
    isplitl [A1]; · iexact A1
    isplitl [A4]; · iexact A4
    iexact A3
  ihave HB := (kv_end x c true) $$ [B1 B2 B3 B4]
  · isplitl [B2]; · iexact B2
    isplitl [B1]; · iexact B1
    isplitl [B4]; · iexact B4
    iexact B3
  icases HA with ⟨HAat, HAbf, HApg⟩
  icases HB with ⟨HBat, HBbf, HBpg⟩
  ihave Hdn := (done_elim x c) $$ [Hd Hdn]
  · isplitl [Hd] <;> iassumption
  icases Hdn with ⟨Hl, Hcs⟩
  -- the sums of weights go to the partner
  have hcs := cls_snd 16
  have hcr := cls_rcv 16
  have hp1 : own1 c lB (lAll x c) ⊢ (sched x).payload (sndCell c 16) 0 () := by
    rw [payload_eq x c hcs]
    show _ ⊢ sndPay x c 16
    rw [sndPay_last]
  have hp2 : own1 (pr c) rlB (lAll x c) ⊢ (sched x).payload (rcvCell (pr c) 16) 0 () := by
    rw [payload_eq x (pr c) hcr]
    show _ ⊢ rcvPay x (pr c) 16
    rw [rcvPay_last, pr_pr]
  have hO : oweR c ((15 : Fin 16).val + 1) = 0 + tallyAt (rcvCell (pr c) 16) () NL := by
    show oweR c 16 = _
    rw [oweR_succ c 16 (by omega), oweR_end]
    rfl
  have ha1 : (sched x).amount (sndCell c 16) 0 () = NL := (amount_eq x c hcs 0).trans nS_last
  have ha2 : (sched x).amount (rcvCell (pr c) 16) 0 () = NL := (amount_eq x (pr c) hcr 0).trans nS_last
  have hd1 := mem_duties x c hcs (r := 0) Nat.one_pos
  have hd2 := mem_duties x (pr c) hcr (r := 0) Nat.one_pos
  ihave #HIs := (records_own x κ c (.inr (.inl 16))) $$ HR
  ihave #HIr := (records_own x κ (pr c) (.inr (.inr 16))) $$ HR
  iapply (send_own c (sched x) (pr c) (κ₁ := κ (sndCell c 16)) (κ₂ := κ (rcvCell (pr c) 16)) _ _ hd1 hd2 NL (NL_eq rlB) ha1 ha2
      0 hO hp1 hp2) $$ [Hl Hprl HO HtsL HtrL]
  · isplitr; · iexact HIs
    isplitr; · iexact HIr
    isplitl [Hl]; · iexact Hl
    isplitl [Hprl]; · iexact Hprl
    isplitl [HO]; · iexact HO
    isplitl [HtsL]; · iexact HtsL
    isplitr; · iexact HrsL
    isplitl [HtrL]; · iexact HtrL
    iexact HprL
  iintro ⟨HcL, HO⟩
  ihave Haw := (await_intro (F := F) c) $$ [Hcs Hss Hcrs Hrs]
  · isplitl [Hcs]; · iexact Hcs
    isplitl [Hss]; · iexact Hss
    isplitl [Hcrs]; · iexact Hcrs
    iexact Hrs
  ihave Hj := (join_intro x c) $$ [Haw HO]
  · isplitl [Haw]; · iexact Haw
    iexists _; iexact HO
  iapply (loop_run c _ (fun n => iprop(records x κ ∗ joinI x c n)) 16 (fun h _ k => join_run x κ c h k) 16 0 _ (by decide)) $$ [Hj]
  · isplitr; · iexact HR
    iexact Hj
  iintro ⟨-, Hj⟩
  ihave Hj := (join_elim x c) $$ Hj
  icases Hj with ⟨Hh, HO⟩
  ihave Hh := (here_elim x c) $$ Hh
  icases Hh with ⟨Hacc, Has, Har⟩
  have a1 := fun k => arrive_run (F := F) (α := PUnit) (Q := Kt) x κ c (.inr (.inl 16)) rfl hcs rfl
    (src := rlB) (dst := lB) (hsrc := hrl.wordExact) (hdst := hl.wordExact) ((NL_eq lB).trans nS_last.symm) k
  have a2 := fun k => arrive_run (F := F) (α := PUnit) (Q := Kt) x κ c (.inr (.inr 16)) rfl hcr rfl
    (src := lB) (dst := rlB) (hsrc := hl.wordExact) (hdst := hrl.wordExact) ((NL_eq rlB).trans nS_last.symm) k
  rw [show amt (.snd 16) = NL from nS_last, show (pay x c (.snd 16) 0 : sProp 𝕄) = own1 c lB (lAll x c) from sndPay_last x c] at a1
  rw [show amt (.rcv 16) = nS 16 from rfl, show (pay x c (.rcv 16) 0 : sProp 𝕄) = own1 c rlB (lAll x (pr c)) from rcvPay_last x c] at a2
  iapply a1 $$ [HcL HsL HO]
  · isplitr; · iexact HR
    isplitl [HcL]; · iexact HcL
    isplitl [HsL]; · iexact HsL
    iexact HO
  iintro ⟨Hl, HsL, HO⟩
  iapply a2 $$ [HcrL HrL HO]
  · isplitr; · iexact HR
    isplitl [HcrL]; · iexact HcrL
    isplitl [HrL]; · iexact HrL
    iexact HO
  iintro ⟨Hrl, HrL, HO⟩
  iapply (load_all c lB (lAll x c)) $$ Hl
  iintro Hl
  iapply (load_all c rlB (lAll x (pr c))) $$ Hrl
  iintro Hrl
  ihave Hout := (out_intro x c oM Xo) $$ [Hacc Ho]
  · isplitl [Hacc] <;> iassumption
  iapply (loop_run c _ (fun n => outI x c oM n) 16 (fun h _ k => out_run x c oM h k) 16 0 _ (by decide)) $$ Hout
  iintro Hout
  ihave Hout := (out_elim x c oM) $$ Hout
  icases Hout with ⟨Ha, Hra, Ho⟩
  rw [wp_pure]
  have hat := at_end (F := F) c
  have hca := close_all x κ c
  imod (close_bar x κ c) $$ [HatB] with Hbar
  · isplitr; · iexact HR
    iexact HatB
  icases HAat with ⟨HA0, HA1⟩
  icases HBat with ⟨HB0, HB1⟩
  ihave Hat := hat $$ [HA0 HA1 HB0 HB1 HsL HrL Has Har]
  · isplitl [HA0 HA1 HB0 HB1]
    · isplitl [HA0 HA1]
      · isplitl [HA0] <;> iassumption
      · isplitl [HB0] <;> iassumption
    isplitl [HsL Has]
    · isplitl [HsL] <;> iassumption
    · isplitl [HrL] <;> iassumption
  imod hca $$ [Hat] with Hown
  · isplitr; · iexact HR
    iexact Hat
  imodintro
  iapply Hk
  unfold bodyPost scratch
  isplitl [Hbar]; · iexact Hbar
  isplitl [Hown]; · iexact Hown
  isplitl [Ha Hl Hra Hrl HAbf HBbf]
  · isplitl [Ha]; · iexact Ha
    isplitl [Hl]; · iexists _; iexact Hl
    isplitl [Hra]; · iexact Hra
    isplitl [Hrl]; · iexists _; iexact Hrl
    isplitl [HAbf] <;> iassumption
  isplitl [Hq]; · iexact Hq
  isplitl [Hw]; · iexact Hw
  isplitl [HApg]; · iexact HApg
  isplitl [HBpg]; · iexact HBpg
  isplitl [Ho]; · iexact Ho
  iexact HO

end ends

end Cert.KernelIdeal.Talk
-- ==== Proof.Region.lean ====
module

public import proofs.«01_k».proof.Proof.BodyRun
public import proofs.«01_k».proof.Proof.Gen.KernelIdeal.Points
public import proofs.«01_k».proof.Proof.Gen.KernelIdeal.Regions

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## What the kernel finds and what it leaves -/

/-- What device `c`'s kernel is given. -/
def inp (c : Dev nD) : Inp F where
  q := V3 m c main_v28
  w := V3 m c main_v24
  pg := fun
    | false => V3 m c main_arg1
    | true => V3 m c main_arg2

/-- What the kernel leaves in its result. -/
def outs : Outs (F := F) := fun _ r c => Function.update (V3 m c) main_v29 (oAll (inp m) c) r

theorem V4_out (c : Dev nD) : V4 m (outs m) c main_v29 = oAll (inp m) c := by
  show Function.update (V3 m c) (Proc.devRef .tc main_v29) (outs m 4 main_v29 c) (Proc.devRef .tc main_v29) = _
  rw [Function.update_self]
  show Function.update (V3 m c) (Proc.devRef .tc main_v29) (oAll (inp m) c) (Proc.devRef .tc main_v29) = _
  rw [Function.update_self]

theorem V4_ne (c : Dev nD) (b : DevRef τ sig) (h : b ≠ Proc.devRef .tc main_v29) : V4 m (outs m) c b = V3 m c b :=
  Function.update_of_ne h _ _

/-! ## The region's data -/

/-- Both page arrays of device `c`. -/
def pages (c : Dev nD) : sProp 𝕄 :=
  iprop(own1 c (pgM false) ((inp m c).pg false) ∗ own1 c (pgM true) ((inp m c).pg true))

def Xk (c : Dev nD) : sProp 𝕄 := iprop((∃ κ, records (inp m) κ ∗ opened c) ∗ levAts L lv)
def Yk (c : Dev nD) : sProp 𝕄 := semVal (barCell c) 0

def Φ₀ (c : Dev nD) : sProp 𝕄 := iprop(Xk m c ∗ scratch c ∗ pages m c ∗ ∃ r, prngReg c r)
def Φ₁ (c : Dev nD) : sProp 𝕄 := iprop(Yk c ∗ Pipeline.ownSems0 osem c ∗ scratch c ∗ pages m c ∗ ∃ r, prngReg c r)

def dat (c : Dev nD) : Dat τ (Elt F) Unit ℕ UU ℕ cfg0 c where
  A := fun
    | 0 => V3 m c main_v28
    | 1 => V3 m c main_v24
    | 2 => V3 m c main_v29
  after w _ := match w with
    | 0 => (inp m c).q
    | 1 => (inp m c).w
    | 2 => oAll (inp m) c
  Φ t := if t.val = 0 then Φ₀ m c else Φ₁ m c
  q _ := fullShare
  owed t := if t.val = 0 then O₀ c else 0

abbrev pdats : (p : Fin 1) → (c : Dev nD) → Dat τ (Elt F) Unit ℕ UU ℕ (cfgs p) c
  | 0 => dat m

theorem Φ_zero (c : Dev nD) : (dat m c).Φ 0 = Φ₀ m c := by
  show (if ((0 : Fin (cfg0.N + 1))).val = 0 then Φ₀ m c else Φ₁ m c) = _
  exact if_pos rfl
theorem Φ_first (c : Dev nD) : (dat m c).Φ t0_0.castSucc = Φ₀ m c := by
  show (if ((t0_0.castSucc : Fin (cfg0.N + 1))).val = 0 then Φ₀ m c else Φ₁ m c) = _
  exact if_pos rfl
theorem Φ_succ (c : Dev nD) : (dat m c).Φ t0_0.succ = Φ₁ m c := by
  show (if ((t0_0.succ : Fin (cfg0.N + 1))).val = 0 then Φ₀ m c else Φ₁ m c) = _
  exact if_neg (Nat.succ_ne_zero _)
theorem Φ_last (c : Dev nD) : (dat m c).Φ (Fin.last _) = Φ₁ m c := by
  show (if (Fin.last cfg0.N).val = 0 then Φ₀ m c else Φ₁ m c) = _
  exact if_neg (by rw [Fin.val_last]; decide)
theorem owed_zero (c : Dev nD) : (dat m c).owed 0 = O₀ c := by
  show (if ((0 : Fin (cfg0.N + 1))).val = 0 then O₀ c else 0) = _
  exact if_pos rfl
theorem owed_first (c : Dev nD) : (dat m c).owed t0_0.castSucc = O₀ c := by
  show (if ((t0_0.castSucc : Fin (cfg0.N + 1))).val = 0 then O₀ c else 0) = _
  exact if_pos rfl
theorem owed_succ (c : Dev nD) : (dat m c).owed t0_0.succ = 0 := by
  show (if ((t0_0.succ : Fin (cfg0.N + 1))).val = 0 then O₀ c else 0) = _
  exact if_neg (Nat.succ_ne_zero _)
theorem owed_last (c : Dev nD) : (dat m c).owed (Fin.last _) = 0 := by
  show (if (Fin.last cfg0.N).val = 0 then O₀ c else 0) = _
  exact if_neg (by rw [Fin.val_last]; decide)

/-- An input is staged whole. -/
theorem before_0 (c : Dev nD) (d) : (dat m c).before 0 t0_0 d = (inp m c).q := by
  rw [Dat.before_fetched _ _ _ (fetch0_0 _)]
  funext j
  unfold Dat.fetched Dat.blockOf Pipeline.Window.fill
  rw [dif_pos (((cfg0.win 0).moved_iff _ j).mpr fun a => (j a).isLt)]
  show V3 m c main_v28 _ = V3 m c main_v28 _
  congr 1
  funext a
  apply Fin.ext
  show 0 * _ + 1 * (j a).val = (j a).val
  omega

theorem before_1 (c : Dev nD) (d) : (dat m c).before 1 t0_0 d = (inp m c).w := by
  rw [Dat.before_fetched _ _ _ (fetch0_1 _)]
  funext j
  unfold Dat.fetched Dat.blockOf Pipeline.Window.fill
  rw [dif_pos (((cfg0.win 1).moved_iff _ j).mpr fun a => (j a).isLt)]
  show V3 m c main_v24 _ = V3 m c main_v24 _
  congr 1
  funext a
  apply Fin.ext
  show 0 * _ + 1 * (j a).val = (j a).val
  omega

/-- The result is written back whole. -/
theorem arrAt_2 (c : Dev nD) : (dat m c).arrAt 2 cfg0.N = oAll (inp m) c := by
  rw [show cfg0.N = 0 + 1 from N_0]
  unfold Dat.arrAt
  rw [dif_pos (show 0 < cfg0.N by decide), if_pos (flush0_2 _)]
  funext i
  have hy : ((cfg0.win 2).blk t0_0).view.emb i = i := by
    funext a
    apply Fin.ext
    show 0 * _ + 1 * (i a).val = (i a).val
    omega
  conv_lhs => rw [← hy]
  erw [View.write_emb_of_mem _ _ (Finset.mem_univ _)]
  rfl

/-! ## The body -/

theorem owesAt_intro (c : Dev nD) (t : Fin (cfg0.N + 1)) (O : CellTallies nD τ sig Unit) (h0 : (dat m c).owed t = O) :
    (iprop(∃ W, owes (c : Thread nD τ) O W) : sProp 𝕄) ⊢ (dat m c).owesAt () t := by
  unfold Dat.owesAt Pipeline.owesWithin Dat.bound
  rw [h0]
  iintro ⟨%W, HO⟩
  iexists W
  isplitr
  · ipureintro; exact fun _ _ => Or.inl trivial
  iexact HO
theorem owesAt_elim (c : Dev nD) (t : Fin (cfg0.N + 1)) (O : CellTallies nD τ sig Unit) (h0 : (dat m c).owed t = O) :
    (dat m c).owesAt () t ⊢ (iprop(∃ W, owes (c : Thread nD τ) O W) : sProp 𝕄) := by
  unfold Dat.owesAt Pipeline.owesWithin
  rw [h0]
  iintro ⟨%W, -, HO⟩
  iexists W
  iexact HO

variable [∀ e, Nonempty (Elt F e)]

theorem body_at (c : Dev nD) (Kt : PUnit → sProp 𝕄) (κ : GSem nD τ sig → ℕ) :
    iprop(bodyPre (inp m) κ c (st0_0 t0_0) (st0_1 t0_0) (st0_2 t0_0) fullShare fullShare
        ∗ (bodyPost (inp m) c (st0_0 t0_0) (st0_1 t0_0) (st0_2 t0_0) fullShare fullShare -∗ Kt ⟨⟩))
      ⊢ wp frame (wpE (defs₀ (F := F)) 𝒱₀ c none) Set.univ (bodyAt0 t0_0) Kt := by
  have e : bodyAt0 (F := F) t0_0 = bodyP (F := F) (st0_0 t0_0) (st0_1 t0_0) (pgM false) (pgM true) (st0_2 t0_0) aB lB raB rlB (bfM false) (bfM true) (bsM false) (bsM true)
      cc0_scratch8 cc0_scratch9 (Memref.isWhole_whole cc0_scratch1) (Memref.isWhole_whole cc0_scratch3) := by
    rw [← body_eq (F := F)]
  rw [e]
  exact body_run (inp m) κ c (st0_0 t0_0) (st0_1 t0_0) (st0_2 t0_0) fullShare fullShare (Memref.isWhole_whole cc0_scratch1) (Memref.isWhole_whole cc0_scratch3) Kt

theorem body_ob (c : Dev nD) : BodyObligation (dat m c) defs₀ 𝒱₀ () Set.univ := fun t => by
  obtain rfl := fin_N0 t
  rw [bigSep_W0, bigSep_W0]
  rw [Φ_first, Φ_succ]
  unfold Φ₀ Φ₁ Xk Yk pages
  iintro ⟨⟨⟨⟨%κ, HR, Hop⟩, HL⟩, Hs, ⟨Hk, Hv⟩, Hreg⟩, HO, ⟨%d0, H0⟩, ⟨%d1, H1⟩, ⟨%d2, H2⟩⟩
  ihave HO := (owesAt_elim m c _ (O₀ c) (owed_first m c)) $$ HO
  iapply (body_at m c _ κ)
  unfold bodyPre bodyPost
  isplitl [HR Hop HL Hs Hk Hv HO H0 H1 H2]
  · isplitl [HR]; · iexact HR
    isplitl [HL]; · iexact HL
    isplitl [Hop]; · iexact Hop
    isplitl [Hs]; · iexact Hs
    isplitl [H0]; · rw [← before_0 m c d0]; iexact H0
    isplitl [H1]; · rw [← before_1 m c d1]; iexact H1
    isplitl [Hk]; · iexact Hk
    isplitl [Hv]; · iexact Hv
    isplitl [H2]; · iexists _; iexact H2
    iexact HO
  iintro ⟨Hb, Hos, Hs, H0, H1, Hk, Hv, H2, HO⟩
  isplitl [Hb Hos Hs Hk Hv Hreg]
  · isplitl [Hb]; · iexact Hb
    isplitl [Hos]; · iexact Hos
    isplitl [Hs]; · iexact Hs
    isplitl [Hk Hv]; · isplitl [Hk] <;> iassumption
    iexact Hreg
  isplitl [HO]; · iapply (owesAt_intro m c _ 0 (owed_succ m c)); iexact HO
  isplitl [H0]; · iexact H0
  isplitl [H1]; · iexact H1
  iexact H2

/-! ## Entering and leaving -/

/-- What a device keeps for itself from the start: its barrier counter open, its other counters' rights, its tokens. -/
def linear (c : Dev nD) : sProp 𝕄 :=
  iprop(atPos ER (barCell c) 0 ∅ 0 ∗ (bigSep Finset.univ fun k : OI => openTok ER ((c : Thread nD τ), osem k))
    ∗ dutyTok ER (barCell (pr c)) 0 () ∗ (bigSep Finset.univ fun h : Fin 16 => kvTok c false h) ∗ (bigSep Finset.univ fun h : Fin 16 => kvTok c true h)
    ∗ (bigSep Finset.univ fun i : Fin 17 => dutyTok ER (sndCell c i) 0 ()) ∗ (bigSep Finset.univ fun i : Fin 17 => dutyTok ER (rcvCell (pr c) i) 0 ()))

/-- The credit a device has from the start. -/
def creds (c : Dev nD) : sProp 𝕄 :=
  iprop(cred (tallyAt (barCell c) () 1) ∗ bigSep Finset.univ fun i : Fin 17 => cred (tallyAt (rcvCell c i) () (nS i)))

def Tk (c : Dev nD) : sProp 𝕄 := iprop((∃ κ, records (inp m) κ ∗ linear c) ∗ creds c)

theorem open_all (κ : GSem nD τ sig → ℕ) (c : Dev nD) :
    iprop(records (inp m) κ ∗ bigSep Finset.univ fun k : OI => iprop(openTok ER ((c : Thread nD τ), osem k) ∗ semVal ((c : Thread nD τ), osem k) 0))
      ⊢ (|={Set.univ}=> bigSep Finset.univ fun k : OI =>
          iprop(atPos ER ((c : Thread nD τ), osem k) 0 ∅ 0 ∗ reached ER ((c : Thread nD τ), osem k) 0) : sProp 𝕄) :=
  (bigSep_with_persistent fun k _ => by
    iintro ⟨#HR, Ho, Hs⟩
    iapply (Rounds.cell_open ER (sched (inp m)) (g := ((c : Thread nD τ), osem k)) (Set.mem_univ (κ ((c : Thread nD τ), osem k))))
    isplitr
    · iapply (records_own (inp m) κ c k); iexact HR
    isplitl [Ho] <;> iassumption).trans (bigSep_fupd _ _)

theorem hopen (c : Dev nD) : iprop(Tk m c ∗ Pipeline.ownSems0 osem c ∗ levAts L lv) ⊢ (|={Set.univ}=> Xk m c : sProp 𝕄) := by
  unfold Tk Xk linear creds Pipeline.ownSems0
  iintro ⟨⟨⟨%κ, #HR, Hb, Ho, Hrest⟩, HcB, HcR⟩, Hs, HL⟩
  imod (open_all m κ c) $$ [Ho Hs] with Hk
  · isplitr; · iexact HR
    rw [bigSep_sep']
    isplitl [Ho] <;> iassumption
  icases Hrest with ⟨H1, H2, H3, H4, H5⟩
  imodintro
  isplitr [HL]
  · iexists κ
    isplitr; · iexact HR
    unfold opened
    isplitl [Hb]; · iexact Hb
    isplitl [Hk]; · iexact Hk
    isplitl [H1]; · iexact H1
    isplitl [H2]; · iexact H2
    isplitl [H3]; · iexact H3
    isplitl [H4]; · iexact H4
    isplitl [H5]; · iexact H5
    isplitl [HcB] <;> iassumption
  iexact HL

/-- The page arrays' buffers. -/
def pgRefs : Finset (DevRef τ sig) := {Proc.devRef .tc main_arg1, Proc.devRef .tc main_arg2}
/-- The buffers no window stages. -/
def restRefs : Finset (DevRef τ sig) := Pipeline.ucRefs τ sig \ Pipeline.arrRefs (τ := τ) spec0

theorem pages_held (c : Dev nD) : (StableHlo.held (c : Thread nD τ) pgRefs (V3 m c) : sProp 𝕄) = pages m c := by
  unfold StableHlo.held pgRefs pages
  rw [bigSep_eq_bigSepL_of_eq [Proc.devRef .tc main_arg1, Proc.devRef .tc main_arg2] (by decide) (by decide),
    show own1 c (pgM false) ((inp m c).pg false) = _ from owns_whole (c : Thread nD τ) main_arg1 fullShare (V3 m c main_arg1),
    show own1 c (pgM true) ((inp m c).pg true) = _ from owns_whole (c : Thread nD τ) main_arg2 fullShare (V3 m c main_arg2)]
  rfl

theorem scratch_rest (c : Dev nD) :
    (Pipeline.scopedRest (Ix := Unit) (Name := ℕ) (U := UU) (Lvl := ℕ) (Val := Elt F) spec0 c : sProp 𝕄) = scratch c := by
  rw [scopedRest0_eq]
  unfold scratch own1
  simp only [owns_whole]
  rfl

theorem hin (c : Dev nD) : iprop(Pipeline.scopedRest (Ix := Unit) (Name := ℕ) (U := UU) (Lvl := ℕ) (Val := Elt F) spec0 c ∗ (∃ r, prngReg c r)
      ∗ StableHlo.held (c : Thread nD τ) pgRefs (V3 m c) ∗ Xk m c) ⊢ ((dat m c).Φ 0 : sProp 𝕄) := by
  rw [Φ_zero, scratch_rest, pages_held]
  unfold Φ₀
  iintro ⟨Hs, Hr, Hp, HX⟩
  isplitl [HX]; · iexact HX
  isplitl [Hs]; · iexact Hs
  isplitl [Hp] <;> iassumption

theorem hout (c : Dev nD) : (dat m c).Φ (Fin.last _) ⊢ (iprop(Pipeline.scopedRest (Ix := Unit) (Name := ℕ) (U := UU) (Lvl := ℕ) (Val := Elt F) spec0 c
      ∗ (∃ r, prngReg c r) ∗ StableHlo.held (c : Thread nD τ) pgRefs (V4 m (outs m) c) ∗ Pipeline.ownSems0 osem c ∗ Yk c) : sProp 𝕄) := by
  rw [Φ_last, scratch_rest, StableHlo.held_congr (c : Thread nD τ) (S := pgRefs) (V := V4 m (outs m) c) (V' := V3 m c)
    (fun b hb => V4_ne m c b (fun h => absurd (h ▸ hb) (by decide))), pages_held]
  unfold Φ₁
  iintro ⟨Hy, Hos, Hs, Hp, Hr⟩
  isplitl [Hs]; · iexact Hs
  isplitl [Hr]; · iexact Hr
  isplitl [Hp]; · iexact Hp
  isplitl [Hos] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {c : Dev nD} {g : GSem nD τ sig} {u : Unit} (h : 0 < O₀ c g u) : u ∈ L g ∧ 0 < lv g u := by
  unfold O₀ at h
  rw [Pi.add_apply, Finsupp.add_apply] at h
  rcases Nat.add_pos_iff_pos_or_pos.mp h with h | h
  · obtain ⟨i, rfl⟩ := oweR_pos h
    refine ⟨by rw [L_tc]; exact Finset.mem_singleton_self _, ?_⟩
    unfold lv; dsimp only; rw [cls_rcv]; exact Nat.zero_lt_two
  · rw [tallyAt_apply] at h
    split at h
    · next hg =>
      obtain ⟨rfl, -⟩ := hg
      refine ⟨by rw [L_tc]; exact Finset.mem_singleton_self _, ?_⟩
      unfold lv; dsimp only; rw [cls_bar]; exact Nat.zero_lt_one
    · exact absurd h (Nat.lt_irrefl 0)

theorem cutD (c : Dev nD) (t : Fin (cfg0.N + 1)) (g : GSem nD τ sig) (i : Unit) (h : 0 < (dat m c).owed t g i) :
    i ∈ L g ∧ (0 : ℕ) < lv g i := by
  rw [show (dat m c).owed t = if t.val = 0 then O₀ c else 0 from rfl] at h
  split at h
  · exact O₀_pos h
  · exact absurd h (Nat.lt_irrefl 0)

theorem lv_stage : ∀ (w : Fin cfg0.W) (s : Fin (cfg0.win w).nbuf), lvC (cls (.dma ((cfg0.win w).sem s))) ≤ 0 := by decide

set_option backward.isDefEq.respectTransparency.types false in
/-- The kernel's region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    pgRefs restRefs (by decide) kit rfl (fun c => (body_ob m c).loose)
    (fun _ => 0) O₀ (fun c => (owed_zero m c).trans (zero_add _).symm) (owed_last m) (fun _ => rfl)
    (fun c w => by unfold Dat.share; split <;> rfl)
    (V3 m) (V4 m (outs m)) (fun c b hb => V4_ne m c b (fun h => absurd (h ▸ hb) (by decide)))
    (Tk m) Yk (Xk m) Yk (hopen m) (hin m) (hout m)
    (fun c => by iintro H; imodintro; iexact H)
    (fun _ => 0)
    ⟨fun c w s => by rw [L_tc]; exact Finset.mem_singleton_self _, fun c w s => lv_stage w s, fun c t g i h => cutD m c t g i h⟩
    (fun _ => iprop(emp))
    (fun c w => by fin_cases w <;> rfl)
    (fun c w => by
      fin_cases w
      · exact ((dat m c).arrAt_in 0 rfl _).trans (V4_ne m c (Proc.devRef .tc main_v28) (by decide)).symm
      · exact ((dat m c).arrAt_in 1 rfl _).trans (V4_ne m c (Proc.devRef .tc main_v24) (by decide)).symm
      · exact (arrAt_2 m c).trans (V4_out m c).symm)

end Cert.KernelIdeal.Talk
-- ==== Proof.Launch.lean ====
module

public import proofs.«01_k».proof.Proof.Region

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

/-- The payments into a device's counters: its barrier's, its copies' by head, its sent and its landed pieces'. -/
abbrev TI : Type := Unit ⊕ ((Bool × Fin 16) ⊕ (Fin 17 ⊕ Fin 17))
def tsem : TI → SemLoc sig
  | .inl _ => .reg barS
  | .inr (.inl (b, h)) => .dma (kvS b (sl h))
  | .inr (.inr (.inl i)) => .dma (sndS i)
  | .inr (.inr (.inr i)) => .dma (rcvS i)
def tcls : TI → Cls
  | .inl _ => .bar
  | .inr (.inl (b, h)) => .kv b (sl h)
  | .inr (.inr (.inl i)) => .snd i
  | .inr (.inr (.inr i)) => .rcv i
def trd : TI → ℕ
  | .inr (.inl (_, h)) => h.val / 2
  | _ => 0
theorem cls_tsem (k : TI) : cls (tsem k) = tcls k := by
  rcases k with _ | ⟨b, h⟩ | i | i
  exacts [cls_bar, cls_kv b _, cls_snd i, cls_rcv i]
theorem tk_inj : Function.Injective (fun k : TI => (tsem k, trd k)) := by
  intro k k' h
  have h1 := (cls_tsem k).symm.trans ((congrArg (fun p => cls p.1) h).trans (cls_tsem k'))
  have h2 : trd k = trd k' := congrArg Prod.snd h
  rcases k with _ | ⟨b, i⟩ | i | i <;> rcases k' with _ | ⟨b', i'⟩ | i' | i' <;> simp only [tcls, reduceCtorEq, Cls.kv.injEq, Cls.snd.injEq, Cls.rcv.injEq] at h1
  · rfl
  · obtain ⟨rfl, h1⟩ := h1
    have h1 := congrArg Fin.val h1
    simp only [trd] at h1 h2
    have : i = i' := Fin.ext (by omega)
    rw [this]
  · rw [h1]
  · rw [h1]

def toksF : Finset (GSem nD τ sig × ℕ × Unit) :=
  Finset.univ.map ⟨fun ck : Dev nD × TI => (((ck.1 : Thread nD τ), tsem ck.2), trd ck.2, ()), fun _ _ h =>
    Prod.ext (congrArg (fun t : GSem nD τ sig × ℕ × Unit => t.1.1.1) h)
      (tk_inj (Prod.ext (congrArg (fun t : GSem nD τ sig × ℕ × Unit => t.1.2) h) (congrArg (fun t : GSem nD τ sig × ℕ × Unit => t.2.1) h)))⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The ghost state at the start. -/
def u₀ : UU :=
  (initOf (Pipeline.cells cfgs cellOf_inj) (Pipeline.launchToks cfgs cellOf_inj), launchOf barCells scCells toksF)

/-- A resource held by one device. -/
def at0 (X : sProp 𝕄) (c : Dev nD) : sProp 𝕄 := if c = 0 then X else iprop(emp)
theorem bigSep_at0 (X : sProp 𝕄) : bigSep Finset.univ (at0 X) = X := by
  rw [bigSep_univ_at _ (0 : Dev nD), bigSep_congr (s := Finset.univ.erase (0 : Dev nD)) (Ψ := fun _ => (BI.emp : sProp 𝕄))
      fun c hc => by unfold at0; rw [if_neg (Finset.ne_of_mem_erase hc)]; rfl, BI.bigSep_emp_const]
  unfold at0
  rw [if_pos rfl]
  exact BI.equiv_iff.mp sep_emp

def G : Dev nD → sProp 𝕄 := at0 (BI.own (ER (launchOf barCells scCells toksF)))

/-- The tokens of a device's own counters. -/
def toks (c : Dev nD) : sProp 𝕄 :=
  iprop(dutyTok ER (barCell c) 0 () ∗ (bigSep Finset.univ fun h : Fin 16 => kvTok c false h) ∗ (bigSep Finset.univ fun h : Fin 16 => kvTok c true h)
    ∗ (bigSep Finset.univ fun i : Fin 17 => dutyTok ER (sndCell c i) 0 ()) ∗ (bigSep Finset.univ fun i : Fin 17 => dutyTok ER (rcvCell c i) 0 ()))

theorem toks_eq : bigSep toksF (fun t => (dutyTok ER t.1 t.2.1 t.2.2 : sProp 𝕄)) ⊢ bigSep Finset.univ fun c : Dev nD => toks c := by
  unfold toksF
  rw [bigSep_map, BI.bigSep_univ_prod]
  refine bigSep_mono fun c _ => ?_
  rw [BI.bigSep_univ_sum, BI.bigSep_univ_sum, BI.bigSep_univ_sum, BI.bigSep_univ_prod, sepBool, show (Finset.univ : Finset Unit) = {()} from rfl, bigSep_singleton]
  have h : (iprop(dutyTok ER (barCell c) 0 () ∗ ((bigSep Finset.univ fun h : Fin 16 => kvTok c false h) ∗ (bigSep Finset.univ fun h : Fin 16 => kvTok c true h))
      ∗ (bigSep Finset.univ fun i : Fin 17 => dutyTok ER (sndCell c i) 0 ()) ∗ (bigSep Finset.univ fun i : Fin 17 => dutyTok ER (rcvCell c i) 0 ())) : sProp 𝕄) ⊢ toks c := by
    unfold toks
    iintro ⟨H1, ⟨H2, H3⟩, H4, H5⟩
    isplitl [H1]; · iexact H1
    isplitl [H2]; · iexact H2
    isplitl [H3]; · iexact H3
    isplitl [H4]; · iexact H4
    iexact H5
  exact h

/-- Every device and its partner. -/
def swap : Dev nD ≃ Dev nD := ⟨pr, pr, pr_pr, pr_pr⟩

/-- The barrier's and the landed pieces' tokens go to the partner. -/
theorem toks_around : (bigSep Finset.univ fun c : Dev nD => (toks c : sProp 𝕄))
    ⊢ bigSep Finset.univ fun c : Dev nD => (iprop(dutyTok ER (barCell (pr c)) 0 () ∗ (bigSep Finset.univ fun h : Fin 16 => kvTok c false h)
      ∗ (bigSep Finset.univ fun h : Fin 16 => kvTok c true h) ∗ (bigSep Finset.univ fun i : Fin 17 => dutyTok ER (sndCell c i) 0 ())
      ∗ (bigSep Finset.univ fun i : Fin 17 => dutyTok ER (rcvCell (pr c) i) 0 ())) : sProp 𝕄) := by
  unfold toks
  simp only [bigSep_sep']
  rw [bigSep_univ_equiv swap (fun c : Dev nD => (dutyTok ER (barCell c) 0 () : sProp 𝕄)),
    bigSep_univ_equiv swap (fun c : Dev nD => (bigSep Finset.univ fun i : Fin 17 => dutyTok ER (rcvCell c i) 0 () : sProp 𝕄))]
  exact BI.Entails.refl _

/-! ## The credit -/

theorem dev_of_cell {d c : Dev nD} {s s' : SemLoc sig} (h : ((c : Thread nD τ), s) = (((pr d : Dev nD) : Thread nD τ), s')) : d = pr c := by
  rw [← pr_pr d]
  exact congrArg pr (congrArg (fun g : GSem nD τ sig => g.1.1) h).symm

theorem oweR_apply (d : Dev nD) (g : GSem nD τ sig) (u : Unit) :
    oweR d 0 g u = ∑ j : Fin 17, if g = rcvCell (pr d) j ∧ u = () then nS j else 0 := by
  unfold oweR
  rw [finFrom_zero, Finset.sum_apply, Finsupp.finsetSum_apply]
  exact Finset.sum_congr rfl fun j _ => tallyAt_apply _ _ _ _ _

theorem owed_bar (d c : Dev nD) : O₀ d (barCell c) () = if d = pr c then 1 else 0 := by
  unfold O₀
  rw [Pi.add_apply, Finsupp.add_apply, oweR_apply, tallyAt_apply, Finset.sum_eq_zero fun j _ => if_neg fun h => (by
    have := congrArg (fun g : GSem nD τ sig => g.2) h.1
    exact absurd this (by intro h; cases h)), Nat.zero_add]
  by_cases h : d = pr c
  · subst h; rw [pr_pr, if_pos ⟨rfl, rfl⟩, if_pos rfl]
  · rw [if_neg (fun h1 => h (dev_of_cell h1.1)), if_neg h]

theorem owed_rcv (d c : Dev nD) (i : Fin 17) : O₀ d (rcvCell c i) () = if d = pr c then nS i else 0 := by
  unfold O₀
  rw [Pi.add_apply, Finsupp.add_apply, oweR_apply, tallyAt_apply, if_neg (fun h => by
    have := congrArg (fun g : GSem nD τ sig => g.2) h.1
    exact absurd this (by intro h; cases h)), Nat.add_zero]
  by_cases h : d = pr c
  · subst h
    rw [if_pos rfl, Finset.sum_eq_single i]
    · rw [pr_pr, if_pos ⟨rfl, rfl⟩]
    · intro j _ hj
      rw [if_neg]
      intro h
      have h := congrArg (fun g : GSem nD τ sig => cls g.2) h.1
      dsimp only at h
      rw [cls_rcv, cls_rcv] at h
      exact hj (Cls.rcv.inj h).symm
    · intro h; exact absurd (Finset.mem_univ i) h
  · rw [if_neg h]
    exact Finset.sum_eq_zero fun j _ => if_neg fun h1 => h (dev_of_cell h1.1)

/-- Where a device has credit from the start. -/
def csem : Unit ⊕ Fin 17 ↪ SemLoc sig :=
  ⟨fun | .inl _ => .reg barS | .inr i => .dma (rcvS i), fun a b h => by
    have h := congrArg cls h
    rcases a with _ | i <;> rcases b with _ | j
    · rfl
    · simp only [cls_bar, cls_rcv, reduceCtorEq] at h
    · simp only [cls_bar, cls_rcv, reduceCtorEq] at h
    · simp only [cls_rcv, Cls.rcv.injEq] at h; rw [h]⟩

theorem launch_at (c : Dev nD) (s : SemLoc sig) (n : ℕ) (h : ∀ d, O₀ d ((c : Thread nD τ), s) () = if d = pr c then n else 0) :
    tallyOn ((c : Thread nD τ), s) (launchCredit (Pipeline.owing O₀) 0 ((c : Thread nD τ), s)) = (tallyAt ((c : Thread nD τ), s) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (pr c) fun _ => n,
    if_pos (Finset.mem_univ _)]

theorem creds_intro (c : Dev nD) : (Pipeline.launchCred O₀ c : sProp 𝕄) ⊢ creds c := by
  unfold Pipeline.launchCred creds
  refine (bigSep_subset (Finset.subset_univ (Finset.univ.map csem))).trans ?_
  rw [bigSep_map, BI.bigSep_univ_sum, show (Finset.univ : Finset Unit) = {()} from rfl, bigSep_singleton]
  refine BI.sep_mono (Entails.of_eq (congrArg cred (launch_at c (.reg barS) 1 fun d => owed_bar d c))) ?_
  exact bigSep_mono fun i _ => Entails.of_eq (congrArg cred (launch_at c (.dma (rcvS i)) (nS i) fun d => owed_rcv d c i))

/-! ## The start -/

/-- Two families dealt together. -/
theorem deal_join {Φ Ψ : Dev nD → sProp 𝕄} : iprop(bigSep Finset.univ Φ ∗ bigSep Finset.univ Ψ) ⊢ bigSep Finset.univ fun c => (iprop(Φ c ∗ Ψ c) : sProp 𝕄) :=
  Entails.of_eq (bigSep_sep' _ _ _).symm
theorem deal_split {Φ Ψ : Dev nD → sProp 𝕄} : (bigSep Finset.univ fun c => (iprop(Φ c ∗ Ψ c) : sProp 𝕄)) ⊢ iprop(bigSep Finset.univ Φ ∗ bigSep Finset.univ Ψ) :=
  Entails.of_eq (bigSep_sep' _ _ _)

variable [∀ e, Nonempty (Elt F e)]

/-- What goes beside the buffers before the kernel and after it. -/
def E : Fin 2 → Dev nD → sProp 𝕄
  | 0, c => iprop(Tk m c ∗ (∃ r, prngReg c r) ∗ ∃ W, owes (c : Thread nD τ) (O₀ c) W)
  | 1, c => iprop(semVal (barCell c) 0 ∗ ∃ W, owes (c : Thread nD τ) (0 : CellTallies nD τ sig Unit) W)

theorem unscopedSems0_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's share of the start is no ghost state. -/
def bundle (c : Dev nD) : sProp 𝕄 :=
  iprop(StableHlo.held (c : Thread nD τ) (Pipeline.ucRefs τ sig) (V0 m c) ∗ creds c ∗ owes (c : Thread nD τ) (O₀ c) ∅ ∗ ∃ r, prngReg c r)

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V5 m (outs m) c) ∗ semVal (barCell c) 0)

theorem T₀_intro (κ : GSem nD τ sig → ℕ) (c : Dev nD) : iprop(records (inp m) κ ∗ (linear c ∗ bundle m c)) ⊢ T₀ m c := by
  unfold bundle T₀ E Tk
  iintro ⟨#HR, Hl, Hh, Hc, HO, Hp⟩
  isplitl [Hh]; · iexact Hh
  isplitl [Hl Hc]
  · isplitl [Hl]
    · iexists κ
      isplitr; · iexact HR
      iexact Hl
    · iexact Hc
  isplitl [Hp]; · iexact Hp
  iexists ∅
  iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show (unscopedBufs c (fun b => m ((c : Thread nD τ).loc b)) : sProp 𝕄) = StableHlo.held (c : Thread nD τ) (Pipeline.ucRefs τ sig) (V0 m c) from
        Pipeline.unscopedBufs_held c (V0 m c), unscopedSems0_bar]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => (bigSep Finset.univ fun k : OI => openTok ER ((c : Thread nD τ), osem k) : sProp 𝕄)) :=
    Entails.of_eq (by rw [bigSep_map, BI.bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := deal_split $$ H'; icases H2 with ⟨HB, H3⟩
  ihave H4 := deal_split $$ H3; icases H4 with ⟨Hv, HG⟩
  ihave Hu := (show bigSep Finset.univ (G (F := F)) ⊢ BI.own (ER (launchOf barCells scCells toksF)) from
    Entails.of_eq (bigSep_at0 (F := F) (BI.own (ER (launchOf barCells scCells toksF))))) $$ HG
  imod (Rounds.fund_launch ER (sched (inp m)) disjoint_cells (fun g _ h => h) toksF) $$ [Hv Hu] with ⟨%κ, -, #Hinv, #Hr, Hat, Hopen, Htok⟩
  · isplitl [Hv]
    · iapply hv $$ Hv
    · iexact Hu
  imodintro
  iapply (bigSep_with_persistent (R := records (inp m) κ) (Φ := fun c => iprop(linear c ∗ bundle m c)) fun c _ => T₀_intro m κ c)
  isplitr
  · unfold records
    isplitr; · iexact Hinv
    iexact Hr
  iapply deal_join
  isplitr [HB]
  · unfold linear
    iapply deal_join; isplitl [Hat]; · iapply hat $$ Hat
    iapply deal_join; isplitl [Hopen]; · iapply hop $$ Hopen
    iapply (toks_around (F := F))
    iapply (toks_eq (F := F)) $$ Htok
  · iexact HB

/-! ## The region in its place -/

theorem reg0_pre (c : Dev nD) : iprop(StableHlo.held (c : Thread nD τ) (Pipeline.ucRefs τ sig) (V3 m c) ∗ E m 0 c) ⊢ (reg0 m).pre c := by
  show _ ⊢ iprop(StableHlo.held (c : Thread nD τ) (Pipeline.arrRefs (τ := τ) spec0) (V3 m c) ∗ (∃ r, prngReg c r)
    ∗ (StableHlo.held (c : Thread nD τ) restRefs (V3 m c) ∗ emp) ∗ Tk m c ∗ ∃ Wd, owes (c : Thread nD τ) (0 + O₀ c) Wd)
  rw [zero_add, StableHlo.held_sub_split (c : Thread nD τ) (Pipeline.arrRefs_sub_ucRefs (τ := τ) spec0 (by decide)) (V3 m c)]
  unfold E restRefs
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c ⊢ iprop(StableHlo.held (c : Thread nD τ) (Pipeline.ucRefs τ sig) (V4 m (outs m) c) ∗ E m 1 c) := by
  show iprop(StableHlo.held (c : Thread nD τ) (Pipeline.arrRefs (τ := τ) spec0) (V4 m (outs m) c) ∗ (∃ r, prngReg c r)
    ∗ (StableHlo.held (c : Thread nD τ) restRefs (V4 m (outs m) c) ∗ emp) ∗ Yk c ∗ ∃ Wd, owes (c : Thread nD τ) (0 : CellTallies nD τ sig Unit) Wd) ⊢ _
  rw [StableHlo.held_sub_split (c : Thread nD τ) (Pipeline.arrRefs_sub_ucRefs (τ := τ) spec0 (by decide)) (V4 m (outs m) c)]
  unfold E restRefs Yk
  iintro ⟨Ha, -, ⟨Hr, -⟩, Hb, HO⟩
  isplitl [Ha Hr]; · isplitl [Ha] <;> iassumption
  isplitl [Hb] <;> iassumption

/-! ## The run -/

theorem unscoped_eq : ∀ sm : SemLoc sig, sm.isScoped .tc = false → sm = .reg barS := by decide

set_option backward.isDefEq.respectTransparency.types false in
/-- Every run ends, on every device with the arguments as they were, the result at what the operations after the
    kernel make of `oAll`, and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v30) = V5 m (outs m) c main_v30) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg0 m))
    (fun c Q => by
      rewrite [main_chain c, Pipeline.Seg.run_eq_chain,
        show (segs m (outs m) 𝒱₀ L lv (E m) () (pdats m) (reg0 m) c).map Pipeline.Seg.prog = [
          StableHlo.seq (hostOps0 c),
          StableHlo.seq hostOps0_1,
          StableHlo.seq hostOps0_2,
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne G u₀ ?_
    (T₀ := T₀ m) (Tₙ := Tₙ m)
    (hch := fun c => ⟨.rfl, .rfl, .rfl, reg0_pre m c, reg0_post m c, ?_⟩)
    (hinit := init m ρ)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_v30) = V5 m (outs m) c main_v30) ∧ s.sem (barCell c) = 0)
    (hfin := fun c s' => ?_)
    (hQ := fun s h hs => ⟨fun c => (h c).1, sem_eq_zero hs fun c sm hsm => by
      obtain rfl := unscoped_eq sm hsm
      exact (h c).2⟩)
  · unfold u₀ G
    iintro Hu
    ihave H := (ownU_pair _ _) $$ Hu
    icases H with ⟨HP, HX⟩
    imodintro
    isplitl [HP]; · iexact HP
    rw [bigSep_at0]
    iexact HX
  · show iprop(StableHlo.held (c : Thread nD τ) (Pipeline.ucRefs τ sig) (V5 m (outs m) c) ∗ E m 1 c)
      ⊢ iprop(Tₙ m c ∗ ∃ W, owes (c : Thread nD τ) (0 : CellTallies nD τ sig Unit) W)
    unfold E
    iintro ⟨Hh, Hb, HO⟩
    isplitr [HO]
    · isplitl [Hh] <;> iassumption
    · iexact HO
  · unfold Tₙ StableHlo.held
    iintro ⟨⟨Hh, Hb⟩, HSI⟩
    icombine HSI Hb gives %hb
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have at' (r : Ref sig .tc) (hr : r.isScoped = false) : s'.mem.mem ((c.tc : Thread nD τ).loc r) = V5 m (outs m) c r :=
        h (Proc.devRef .tc r) (Finset.mem_filter.mpr ⟨StableHlo.devRef_mem_tcRefs r, fun h' => Bool.false_ne_true (hr.symm.trans h')⟩)
      exact ⟨⟨(at' main_arg0 rfl).trans (V5_main_arg0 m (outs m) c), (at' main_arg1 rfl).trans (V5_main_arg1 m (outs m) c),
        (at' main_arg2 rfl).trans (V5_main_arg2 m (outs m) c), (at' main_arg3 rfl).trans (V5_main_arg3 m (outs m) c),
        (at' main_arg4 rfl).trans (V5_main_arg4 m (outs m) c), at' main_v30 rfl⟩, by simpa using hb⟩
    · iexact HSI

end Cert.KernelIdeal.Talk
-- ==== Proof.Same.lean ====
module

public import proofs.«01_k».proof.Proof.Gen.Kernel
public import proofs.«01_k».proof.Proof.Gen.KernelIdeal
@[expose] public section

noncomputable section

namespace Cert.Proof

open Idealize.ShloMosaic

variable {F : FTy → Type} [FloatOps F]

/-- The two printed programs have one text: their kernels' body tables agree. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So do the tables with the pipelines' bodies added. -/
theorem defs_eq : Cert.Kernel.defs (F := F) = Cert.KernelIdeal.defs (F := F) :=
  congrArg (Pipeline.defs Cert.KernelIdeal.pcfgs) defs₀_eq

end Cert.Proof

end
-- ==== Proof.Sums.lean ====
module

public import proofs.«01_k».proof.Proof.Protocol
public import Idealize.ShloMosaic.Lib.Pointwise
public import Idealize.ShloMosaic.PureOps.Ideal.Laws

@[expose] public section

noncomputable section

namespace Cert.KernelIdeal.Talk

open Idealize.ShloMosaic Idealize.ShloMosaic.TcCoe
open Cert.KernelIdeal.Gen

/-! ## The kernel's sums, entry by entry -/

section

variable {F : FTy → Type} [FloatOps F]

theorem qOf_apply (q : Vec F S16x32x128 .f32) (h : Fin 16) (z : Fin 1) (i : Fin 32) (k : Fin 128) :
    qOf q h (ix3 z i k) = q (ix3 h i k) := by
  refine congrArg q (funext fun a => Fin.ext ?_)
  fin_cases a
  · show h.val + 1 * z.val = h.val
    omega
  · show 0 + 1 * i.val = i.val
    omega
  · show 0 + 1 * k.val = k.val
    omega

theorem pageOf_apply (P : Vec F S256x32x16x128 .f32) (h : Fin 16) (z : Fin 1) (p : Fin 256) (b : Fin 32) (k : Fin 128) :
    pageOf P h (ix4 z p b k) = P (ix4 p b h k) := by
  unfold pageOf
  have e1 : (Shape.reshapeEquiv squeezes_S1x256x32x128_S256x32x128.numel_eq).symm (ix4 z p b k)
      = (ix3 p b k : S256x32x128.Idx) := by
    rw [Equiv.symm_apply_eq]
    pointwise
    congr 1
    exact Fin.ext (by omega)
  have e2 : Shape.reshapeEquiv squeezes_S256x32x1x128_S256x32x128.numel_eq (ix3 p b k : S256x32x128.Idx)
      = (ix4 p b 0 k : S256x32x1x128.Idx) := by
    pointwise
  rw [e1, e2]
  refine congrArg P (funext fun a => Fin.ext ?_)
  fin_cases a
  · show 0 + 1 * p.val = p.val
    omega
  · show 0 + 1 * b.val = b.val
    omega
  · show h.val + 1 * 0 = h.val
    omega
  · show 0 + 1 * k.val = k.val
    omega

end

/-- The weight a device gives to token `n` of its pages, of head `h` for row `i`. -/
def wt (x : Inp Ideal) (h : Fin 16) (i : Fin 32) (n : Fin 8192) : EReal :=
  x.w (ix2 i n) * Ideal.exp (∑ k : Fin 128, x.q (ix3 h i k) *
    x.pg false (ix4 ⟨n.val / 32, by omega⟩ ⟨n.val % 32, by omega⟩ h k))

set_option maxRecDepth 16384 in
theorem wgt_apply (x : Inp Ideal) (h : Fin 16) (i : Fin 32) (n : Fin 8192) :
    wgt x.w (qOf x.q h) (pageOf (x.pg false) h) (ix2 i n) = wt x h i n := by
  unfold wgt wt
  pointwise [k0_pay1, k0_pay2]
  simp only [qOf_apply, pageOf_apply]

set_option maxRecDepth 16384 in
theorem lV_apply (x : Dev nD → Inp Ideal) (d : Dev nD) (h : Fin 16) (i : Fin 32) (z : Fin 1) :
    lV x d h (ix2 i z) = ∑ n : Fin 8192, wt (x d) h i n := by
  unfold lV lOf
  have e : ∀ n, k0_pay2 (k0_pay1 (x d).w) (qOf (x d).q h) (pageOf ((x d).pg false) h) (ix2 i n) = wt (x d) h i n :=
    fun n => wgt_apply (x d) h i n
  generalize hW : k0_pay2 (k0_pay1 (x d).w) (qOf (x d).q h) (pageOf ((x d).pg false) h) = W at e
  unfold k0_pay3
  rw [hW]
  pointwise
  exact Finset.sum_congr rfl fun n _ => e n

set_option maxRecDepth 16384 in
theorem aV_apply (x : Dev nD → Inp Ideal) (d : Dev nD) (h : Fin 16) (z : Fin 1) (i : Fin 32) (k : Fin 128) :
    aV x d h (ix3 z i k) = ∑ n : Fin 8192, wt (x d) h i n *
      (x d).pg true (ix4 ⟨n.val / 32, by omega⟩ ⟨n.val % 32, by omega⟩ h k) := by
  unfold aV accOf
  have e : ∀ n, k0_pay2 (k0_pay1 (x d).w) (qOf (x d).q h) (pageOf ((x d).pg false) h) (ix2 i n) = wt (x d) h i n :=
    fun n => wgt_apply (x d) h i n
  generalize hW : k0_pay2 (k0_pay1 (x d).w) (qOf (x d).q h) (pageOf ((x d).pg false) h) = W at e
  unfold k0_pay4
  rw [hW]
  pointwise
  simp only [pageOf_apply, e]

set_option maxRecDepth 16384 in
theorem oAll_apply (x : Dev nD → Inp Ideal) (d : Dev nD) (i : Fin 32) (h : Fin 16) (k : Fin 128) :
    oAll x d (ix3 i h k) = Ideal.div
      ((∑ n : Fin 8192, wt (x d) h i n * (x d).pg true (ix4 ⟨n.val / 32, by omega⟩ ⟨n.val % 32, by omega⟩ h k))
        + ∑ n : Fin 8192, wt (x (pr d)) h i n *
          (x (pr d)).pg true (ix4 ⟨n.val / 32, by omega⟩ ⟨n.val % 32, by omega⟩ h k))
      ((∑ n : Fin 8192, wt (x d) h i n) + ∑ n : Fin 8192, wt (x (pr d)) h i n) := by
  rw [← lV_apply x d h i 0, ← lV_apply x (pr d) h i 0, ← aV_apply x d h 0 i k, ← aV_apply x (pr d) h 0 i k]
  show outOf h (lAll x d) (lAll x (pr d)) (aV x d h) (aV x (pr d) h) (ix3 i 0 k) = _
  generalize aV x d h = A
  generalize aV x (pr d) h = B
  have eL : ∀ e, lAll x e (ix2 i h) = lV x e h (ix2 i 0) := fun _ => rfl
  rw [← eL, ← eL]
  generalize lAll x d = L
  generalize lAll x (pr d) = M
  unfold outOf
  pointwise

end Cert.KernelIdeal.Talk

end
-- ==== Proof.Math.lean ====
module

public import Idealize.ShloMosaic.PureOps.Ideal
public import Idealize.ShloMosaic.PureOps.Ideal.Laws
public import Mathlib.Data.EReal.Inv
public import Mathlib.Algebra.BigOperators.Fin

@[expose] public section

noncomputable section

namespace Cert.KernelIdeal.Attn

open Idealize.ShloMosaic

/-! ## Sums of extended reals -/

theorem sum_mul_of_nonneg {ι : Type} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum of extended reals, none of them `⊤` and not all of them `⊥`, is a real. -/
theorem fold_max_real {ι : Type} (s : Finset ι) (f : ι → EReal) (ht : ∀ i ∈ s, f i ≠ ⊤) (hb : ∃ i ∈ s, f i ≠ ⊥) :
    ∃ μ : ℝ, s.fold max ⊥ f = (μ : EReal) := by
  have h1 : s.fold max ⊥ f < ⊤ := (Finset.fold_max_lt ⊤).2 ⟨bot_lt_top, fun i hi => (ht i hi).lt_top⟩
  obtain ⟨i, hi, h⟩ := hb
  have h2 : f i ≤ s.fold max ⊥ f := (Finset.le_fold_max _).2 (Or.inr ⟨i, hi, le_rfl⟩)
  exact ⟨_, (EReal.coe_toReal h1.ne (fun e => h (le_bot_iff.1 (e ▸ h2)))).symm⟩

/-- A sum over the tokens of a row of pages, page by page. -/
theorem sum_tokens (f : Fin 256 → Fin 32 → EReal) :
    ∑ n : Fin 8192, f ⟨n.val / 32, by omega⟩ ⟨n.val % 32, by omega⟩ = ∑ p : Fin 256, ∑ b : Fin 32, f p b := by
  rw [← Fintype.sum_prod_type' f]
  refine (Fintype.sum_equiv (finProdFinEquiv (m := 256) (n := 32)) _ _ fun x => ?_).symm
  obtain ⟨p, b⟩ := x
  have e : (finProdFinEquiv (p, b) : Fin (256 * 32)).val = b.val + 32 * p.val := rfl
  congr 1
  · exact Fin.ext (by simp only [e]; omega)
  · exact Fin.ext (by simp only [e]; omega)

/-- A sum over the pool's pages is the sum over its two halves. -/
theorem sum_halves (f : Fin 512 → EReal) :
    ∑ r : Fin 512, f r = (∑ p : Fin 256, f ⟨p.val, by omega⟩) + ∑ p : Fin 256, f ⟨256 + p.val, by omega⟩ :=
  Fin.sum_univ_add (a := 256) (b := 256) f

/-! ## Attention over pages -/

variable (L : Fin 256 → Prop) [DecidablePred L] (row : Fin 256 → Fin 512)

/-- How often a page occurs among the live slots. -/
def cnt (r : Fin 512) : EReal := ∑ s : Fin 256, if L s ∧ row s = r then 1 else 0

/-- Summing over the pages with their counts is summing over the live slots. -/
theorem sum_cnt (e : Fin 512 → EReal) :
    ∑ r, cnt L row r * e r = ∑ s, if L s then e (row s) else 0 := by
  have h : ∀ r, cnt L row r * e r = ∑ s, if L s ∧ row s = r then e r else 0 := by
    intro r
    unfold cnt
    rw [sum_mul_of_nonneg _ _ (fun s _ => by split <;> simp)]
    exact Finset.sum_congr rfl fun s _ => by split <;> simp
  rw [Finset.sum_congr rfl fun r _ => h r, Finset.sum_comm]
  refine Finset.sum_congr rfl fun s _ => ?_
  by_cases hs : L s
  · simp [hs]
  · simp [hs]

variable (t : Fin 512 → Fin 32 → ℝ) (v : Fin 512 → Fin 32 → EReal)

/-- The sum of the weights of the live tokens. -/
def Z : ℝ := ∑ s, ∑ b, if L s then Real.exp (t (row s) b) else 0

theorem Z_pos (hL : ∃ s, L s) : 0 < Z L row t := by
  obtain ⟨s, hs⟩ := hL
  refine Finset.sum_pos' (fun s _ => Finset.sum_nonneg fun b _ => by split <;> positivity) ⟨s, Finset.mem_univ s, ?_⟩
  refine Finset.sum_pos (fun b _ => ?_) ⟨0, Finset.mem_univ 0⟩
  rw [if_pos hs]
  exact Real.exp_pos _

/-- What both sides compute. -/
def att : EReal := ∑ s, ∑ b, if L s then v (row s) b * ((Real.exp (t (row s) b) / Z L row t : ℝ) : EReal) else 0

theorem kernel_num : ∑ r, ∑ b, (cnt L row r * Ideal.exp (t r b)) * v r b
    = ∑ s, ∑ b, if L s then v (row s) b * ((Real.exp (t (row s) b) : ℝ) : EReal) else 0 := by
  have h : ∀ r, ∑ b, (cnt L row r * Ideal.exp (t r b)) * v r b
      = ∑ b, cnt L row r * (v r b * ((Real.exp (t r b) : ℝ) : EReal)) := fun r =>
    Finset.sum_congr rfl fun b _ => by rw [mul_assoc, mul_comm (v r b)]; rfl
  rw [Finset.sum_congr rfl fun r _ => h r, Finset.sum_comm]
  rw [Finset.sum_congr rfl fun b _ => sum_cnt L row fun r => v r b * ((Real.exp (t r b) : ℝ) : EReal), Finset.sum_comm]

theorem kernel_den : ∑ r, ∑ b, cnt L row r * Ideal.exp (t r b) = ((Z L row t : ℝ) : EReal) := by
  rw [Finset.sum_comm, Finset.sum_congr rfl fun b _ => sum_cnt L row fun r => Ideal.exp (t r b), Finset.sum_comm]
  unfold Z
  rw [coe_sum]
  refine Finset.sum_congr rfl fun s _ => ?_
  rw [coe_sum]
  refine Finset.sum_congr rfl fun b _ => ?_
  split <;> rfl

theorem div_coe (x : EReal) (z : ℝ) (hz : 0 < z) : Ideal.div x (z : EReal) = x * ((z⁻¹ : ℝ) : EReal) := by
  unfold Ideal.div
  rw [if_neg (by exact_mod_cast hz.ne')]
  rw [EReal.coe_inv]

/-- The kernel's quotient. -/
theorem kernel_eq (hL : ∃ s, L s) :
    Ideal.div (∑ r, ∑ b, (cnt L row r * Ideal.exp (t r b)) * v r b) (∑ r, ∑ b, cnt L row r * Ideal.exp (t r b))
      = att L row t v := by
  have hz := Z_pos L row t hL
  rw [kernel_num, kernel_den, div_coe _ _ hz, sum_mul_coe _ _ _ (inv_nonneg.2 hz.le)]
  unfold att
  refine Finset.sum_congr rfl fun s _ => ?_
  rw [sum_mul_coe _ _ _ (inv_nonneg.2 hz.le)]
  refine Finset.sum_congr rfl fun b _ => ?_
  split
  · rw [mul_assoc, ← EReal.coe_mul, div_eq_mul_inv]
  · rw [zero_mul]

/-- The masked scores. -/
def score (s : Fin 256) (b : Fin 32) : EReal := if L s then (t (row s) b : EReal) else ⊥

theorem weight_eq (μ : ℝ) (s : Fin 256) (b : Fin 32) :
    Ideal.exp (score L row t s b - (μ : EReal)) = (((if L s then Real.exp (t (row s) b) else 0) * Real.exp (-μ) : ℝ) : EReal) := by
  unfold score
  split
  · rw [← EReal.coe_sub, sub_eq_add_neg, ← Real.exp_add]
    rfl
  · rw [EReal.bot_sub, zero_mul]
    rfl

/-- The reference's weighted sum, whatever real the scores are shifted by. -/
theorem reference_eq (hL : ∃ s, L s) (μ : ℝ) :
    ∑ s, ∑ b, v (row s) b * Ideal.div (Ideal.exp (score L row t s b - (μ : EReal)))
        (∑ s, ∑ b, Ideal.exp (score L row t s b - (μ : EReal)))
      = att L row t v := by
  have hz := Z_pos L row t hL
  have hd : ∑ s, ∑ b, Ideal.exp (score L row t s b - (μ : EReal)) = ((Z L row t * Real.exp (-μ) : ℝ) : EReal) := by
    unfold Z
    rw [Finset.sum_mul, coe_sum]
    refine Finset.sum_congr rfl fun s _ => ?_
    rw [Finset.sum_mul, coe_sum]
    exact Finset.sum_congr rfl fun b _ => weight_eq L row t μ s b
  rw [hd]
  unfold att
  refine Finset.sum_congr rfl fun s _ => Finset.sum_congr rfl fun b _ => ?_
  rw [weight_eq, div_coe _ _ (mul_pos hz (Real.exp_pos _)), ← EReal.coe_mul]
  have he := (Real.exp_pos (-μ)).ne'
  split
  · congr 2
    field_simp
  · rw [zero_mul, zero_mul, EReal.coe_zero, mul_zero]

end Cert.KernelIdeal.Attn

end
-- ==== Proof.Host.lean ====
module

public import proofs.«01_k».proof.Proof.Region
public import proofs.«01_k».proof.Proof.Sums
public import proofs.«01_k».proof.Proof.Math
public import Idealize.ShloMosaic.Lib.StableHlo.ReadAt
public import Idealize.ShloMosaic.Lib.Pointwise
public import Idealize.ShloMosaic.PureOps.Ideal.Laws

@[expose] public section

noncomputable section

namespace Cert.KernelIdeal.Talk

open Idealize.ShloMosaic Idealize.ShloMosaic.TcCoe
open Cert.KernelIdeal.Gen

/-! ## What the host operations in front of the kernel leave it -/

section

variable (m : (ℓ : Loc nD τ sig) → Buf (Elt Ideal) ℓ)

/-- A device's queries, keys, values, table and lengths. -/
def argQ (c : Dev nD) : Vec Ideal S32x1x16x128 .f32 := m ((c.tc : Thread nD τ).loc main_arg0)
def argK (c : Dev nD) : Vec Ideal S256x32x16x128 .f32 := m ((c.tc : Thread nD τ).loc main_arg1)
def argV (c : Dev nD) : Vec Ideal S256x32x16x128 .f32 := m ((c.tc : Thread nD τ).loc main_arg2)
def argT (c : Dev nD) : IVec S32x256 32 := m ((c.tc : Thread nD τ).loc main_arg3)
def argN (c : Dev nD) : IVec S32 32 := m ((c.tc : Thread nD τ).loc main_arg4)

theorem q_apply (c : Dev nD) (h : Fin 16) (i : Fin 32) (k : Fin 128) :
    (inp m c).q (ix3 h i k) = argQ m c (ix4 i 0 h k) * Ideal.ofBits .f32 0x3DB504F3#32 := by
  show (V3 m c main_v28 : Vec Ideal S16x32x128 .f32) (ix3 h i k) = _
  have e : V2 m c main_arg0 = m ((c.tc : Thread nD τ).loc main_arg0) :=
    (V2_of m c main_arg0 (by decide)).trans <| (V1_of m c main_arg0 (by decide)).trans rfl
  unfold argQ
  rw [← e]
  unfold V3
  generalize V2 m c = V
  after_reads_at

theorem k_apply (c : Dev nD) (p : Fin 256) (b : Fin 32) (h : Fin 16) (k : Fin 128) :
    (inp m c).pg false (ix4 p b h k) = argK m c (ix4 p b h k) :=
  congrFun ((V3_of m c main_arg1 (by decide)).trans <| (V2_of m c main_arg1 (by decide)).trans <|
    (V1_of m c main_arg1 (by decide)).trans rfl) _

theorem v_apply (c : Dev nD) (p : Fin 256) (b : Fin 32) (h : Fin 16) (k : Fin 128) :
    (inp m c).pg true (ix4 p b h k) = argV m c (ix4 p b h k) :=
  congrFun ((V3_of m c main_arg2 (by decide)).trans <| (V2_of m c main_arg2 (by decide)).trans <|
    (V1_of m c main_arg2 (by decide)).trans rfl) _

/-- The bit that says whether a row uses a slot. -/
def liveBit (N : IVec S32 32) (i : Fin 32) (s : Fin 256) : BitVec 1 :=
  IntOp.cmpi .slt (BitVec.ofNat 32 s.val) (N (ix1 i))

theorem live_apply (c : Dev nD) (i : Fin 32) (s : Fin 256) :
    (V1 m c main_v11 : IVec S32x256 1) (ix2 i s) = liveBit (argN m c) i s := by
  have e : V0 m c main_arg4 = m ((c.tc : Thread nD τ).loc main_arg4) := rfl
  unfold liveBit argN
  rw [← e]
  unfold V1
  generalize V0 m c = V
  after_reads_at

theorem fill_apply (c : Dev nD) : (V1 m c main_c_2 : IVec S_ 32) ix0 = (4294967295#32 : BitVec 32) := by
  unfold V1
  generalize V0 m c = V
  after_reads_at

theorem base_apply (c : Dev nD) : (V2 m c main_v5 : IVec S_ 32) ix0 = BitVec.ofNat 32 (256 * (c.val / 8)) := by
  rw [show V2 m c main_v5 = V1 m c main_v5 from V2_of m c main_v5 (by decide)]
  unfold V1
  generalize V0 m c = V
  after_reads_at
  show IntOp.muli (Host.remui (Host.divui (constantI S_ 32 c.word) (constantI S_ 32 8#32)) (constantI S_ 32 2#32) ix0) 256#32 = _
  revert c
  decide +kernel

theorem slot_apply (c : Dev nD) (i : Fin 32) (s : Fin 256) :
    (V2 m c main_v12 : IVec S32x256 32) (ix2 i s)
      = Scalar.select (liveBit (argN m c) i s) (argT m c (ix2 i s)) 4294967295#32 := by
  have e : V1 m c main_arg3 = m ((c.tc : Thread nD τ).loc main_arg3) :=
    (V1_of m c main_arg3 (by decide)).trans rfl
  rw [← live_apply, ← fill_apply m c]
  unfold argT
  rw [← e]
  unfold V2
  generalize V1 m c = V
  after_reads_at
  rfl

theorem w_apply (c : Dev nD) (i : Fin 32) (n : Fin 8192) :
    (inp m c).w (ix2 i n) = ∑ s : Fin 256, FloatOps.uitofp (F := Ideal) FTy.f32 (IntOp.cmpi .eq
      (IntOp.subi (Scalar.select (liveBit (argN m c) i s) (argT m c (ix2 i s)) 4294967295#32)
        (BitVec.ofNat 32 (256 * (c.val / 8)))) (BitVec.ofNat 32 (n.val / 32))) := by
  show (V3 m c main_v24 : Vec Ideal S32x8192 .f32) (ix2 i n) = _
  simp only [← slot_apply m c, ← base_apply m c]
  unfold V3
  generalize V2 m c = V
  after_reads_at

end

end Cert.KernelIdeal.Talk

end
-- ==== Proof.Ref.lean ====
module

public import proofs.«01_k».proof.Proof.Gen.ReferenceIdeal.Run
public import Idealize.ShloMosaic.Lib.Pointwise
public import Idealize.ShloMosaic.Lib.Tactic.CleanTypes
public import Idealize.ShloMosaic.PureOps.Ideal.Laws

@[expose] public section

noncomputable section

namespace Cert.ReferenceIdeal.Value

open Idealize.ShloMosaic Idealize.ShloMosaic.TcCoe
open Cert.ReferenceIdeal Cert.ReferenceIdeal.Gen

/-! ## The reference in five steps -/

section

variable {F : FTy → Type} [FloatOps F]

/-- The table with its negative entries wrapped. -/
def wrapT (T : IVec S32x256 32) : IVec S32x256 32 :=
  select (cmpi .slt T (broadcastInDim S32x256 ![] bcast_S_S32x256 (constantI S_ 32 0#32)))
    (addi T (broadcastInDim S32x256 ![] bcast_S_S32x256 (constantI S_ 32 512#32))) T

/-- The pages the table names, token by token. -/
def pages (P : FVec F S512x32x16x128 .f32) (T : IVec S32x256 32) : FVec F S32x8192x16x128 .f32 :=
  shapeCast S32x8192x16x128 (Host.gather gather_S512x32x16x128_S32x256x1_S32x256x32x16x128_234_0_n_n_0_2_13216128 P
    (broadcastInDim S32x256x1 ![0, 1] bcast_S32x256_S32x256x1_0_1 (wrapT T))) shapeCasts_S32x256x32x16x128_S32x8192x16x128

/-- The masked scores. -/
def scores (Q : FVec F S32x1x16x128 .f32) (K : FVec F S512x32x16x128 .f32) (T : IVec S32x256 32) (N : IVec S32 32) :
    FVec F S32x16x1x8192 .f32 :=
  select (broadcastInDim S32x16x1x8192 ![0, 1, 2, 3] bcast_S32x1x1x8192_S32x16x1x8192_0_1_2_3
      (broadcastInDim S32x1x1x8192 ![0, 3] bcast_S32x8192_S32x1x1x8192_0_3
        (shapeCast S32x8192 (broadcastInDim S32x256x32 ![0, 1] bcast_S32x256_S32x256x32_0_1
          (cmpi .slt (broadcastInDim S32x256 ![0, 1] bcast_S1x256_S32x256_0_1
              (broadcastInDim S1x256 ![1] bcast_S256_S1x256_1 (iotaInDim S256 32 0)))
            (broadcastInDim S32x256 ![0, 1] bcast_S32x1_S32x256_0_1
              (broadcastInDim S32x1 ![0] bcast_S32_S32x1_0 N)))) shapeCasts_S32x256x32_S32x8192)))
    (mulf (Host.dotGeneral dot_S32x1x16x128_S32x8192x16x128_S32x16x1x8192_3_3_1_1_02_02 none Q (pages K T))
      (broadcastInDim S32x16x1x8192 ![] bcast_S_S32x16x1x8192 (constant S_ .f32 0x3DB504F3#32)))
    (broadcastInDim S32x16x1x8192 ![] bcast_S_S32x16x1x8192 (id (constant S_ .f32 0xFF800000#32)))

/-- The greatest score of each row and head. -/
def top (S : FVec F S32x16x1x8192 .f32) : FVec F S32x16x1 .f32 :=
  Host.reduce FloatOps.maximumf S (constant S_ .f32 0xFF800000#32) reducesTo_S32x16x1x8192_S32x16x1_d3 h_S_

/-- The exponentials of the scores, shifted by the greatest. -/
def expo (S : FVec F S32x16x1x8192 .f32) (M : FVec F S32x16x1 .f32) : FVec F S32x16x1x8192 .f32 :=
  Host.exp (subf S (broadcastInDim S32x16x1x8192 ![0, 1, 2, 3] bcast_S32x16x1x1_S32x16x1x8192_0_1_2_3
    (broadcastInDim S32x16x1x1 ![0, 1, 2] bcast_S32x16x1_S32x16x1x1_0_1_2 M)))

/-- The weighted sum of the values. -/
def combine (E : FVec F S32x16x1x8192 .f32) (W : FVec F S32x8192x16x128 .f32) : FVec F S32x1x16x128 .f32 :=
  transpose S32x1x16x128 [0, 3, 1, 2]
    (Host.dotGeneral dot_S32x8192x16x128_S32x16x1x8192_S32x16x128x1_1_3_3_2_02_01 none W
      (Host.divf E (broadcastInDim S32x16x1x8192 ![0, 1, 2, 3] bcast_S32x16x1x1_S32x16x1x8192_0_1_2_3
        (broadcastInDim S32x16x1x1 ![0, 1, 2] bcast_S32x16x1_S32x16x1x1_0_1_2
          (Host.reduceAdd E (constant S_ .f32 0x00000000#32) reducesTo_S32x16x1x8192_S32x16x1_d3 h_S_)))))
    transposes_S32x16x128x1_S32x1x16x128_0_3_1_2

theorem res_eq (m : (ℓ : Loc nD τ sig) → Buf (Elt F) ℓ) (c : Dev nD) :
    res_out0 m c = combine
      (expo (scores (m ((c.tc : Thread nD τ).loc main_arg0)) (m ((c.tc : Thread nD τ).loc main_arg1))
          (m ((c.tc : Thread nD τ).loc main_arg3)) (m ((c.tc : Thread nD τ).loc main_arg4)))
        (top (scores (m ((c.tc : Thread nD τ).loc main_arg0)) (m ((c.tc : Thread nD τ).loc main_arg1))
          (m ((c.tc : Thread nD τ).loc main_arg3)) (m ((c.tc : Thread nD τ).loc main_arg4)))))
      (pages (m ((c.tc : Thread nD τ).loc main_arg2)) (m ((c.tc : Thread nD τ).loc main_arg3))) := rfl

end

theorem wrapT_apply (T : IVec S32x256 32) (i : Fin 32) (s : Fin 256) : wrapT T (ix2 i s) =
    Scalar.select (IntOp.cmpi .slt (T (ix2 i s)) 0#32) (IntOp.addi (T (ix2 i s)) 512#32) (T (ix2 i s)) := by
  unfold wrapT
  pointwise

set_option maxRecDepth 16384 in
theorem scores_apply (Q : FVec Ideal S32x1x16x128 .f32) (K : FVec Ideal S512x32x16x128 .f32) (T : IVec S32x256 32) (N : IVec S32 32)
    (i : Fin 32) (h : Fin 16) (n : Fin 8192) :
    scores Q K T N (ix4 i h 0 n) =
      Scalar.select (IntOp.cmpi .slt (BitVec.ofNat 32 (n.val / 32)) (N (ix1 i)))
        ((∑ x, Q (ix4 i 0 h x) * pages K T (ix4 i n h x)) * Ideal.ofBits .f32 0x3DB504F3#32) (Ideal.ofBits .f32 0xFF800000#32) := by
  unfold scores
  generalize pages K T = P
  pointwise
  rfl

set_option maxRecDepth 16384 in
theorem top_apply (S : FVec Ideal S32x16x1x8192 .f32) (i : Fin 32) (h : Fin 16) :
    top S (ix3 i h 0) = Finset.univ.fold max (Ideal.ofBits .f32 0xFF800000#32) (fun n => S (ix4 i h 0 n)) := by
  unfold top
  pointwise

set_option maxRecDepth 16384 in
theorem expo_apply (S : FVec Ideal S32x16x1x8192 .f32) (M : FVec Ideal S32x16x1 .f32) (i : Fin 32) (h : Fin 16) (n : Fin 8192) :
    expo S M (ix4 i h 0 n) = Ideal.exp (S (ix4 i h 0 n) - M (ix3 i h 0)) := by
  unfold expo
  pointwise

set_option maxRecDepth 16384 in
theorem combine_apply (E : FVec Ideal S32x16x1x8192 .f32) (W : FVec Ideal S32x8192x16x128 .f32) (i : Fin 32) (h : Fin 16) (k : Fin 128) :
    combine E W (ix4 i 0 h k) = ∑ n, W (ix4 i n h k) * Ideal.div (E (ix4 i h 0 n)) (∑ n', E (ix4 i h 0 n')) := by
  unfold combine
  pointwise

/-- The page entry `s` of row `i` reads: the wrapped entry, clamped into the pages. -/
def rowOf (T : IVec S32x256 32) (i : Fin 32) (s : Fin 256) : Fin 512 :=
  ⟨min (wrapT T (ix2 i s)).toInt.toNat 511, by omega⟩

theorem gather_apply (P : FVec Ideal S512x32x16x128 .f32) (X : IVec S32x256x1 32)
    (i : Fin 32) (s : Fin 256) (b : Fin 32) (h : Fin 16) (k : Fin 128) :
    Host.gather gather_S512x32x16x128_S32x256x1_S32x256x32x16x128_234_0_n_n_0_2_13216128 P X (ix5 i s b h k) =
      P (ix4 ⟨min (X (ix3 i s 0)).toInt.toNat 511, by omega⟩ b h k) := by
  unfold Host.gather
  congr 1
  funext a
  apply Fin.ext
  match a with
  | ⟨0, _⟩ =>
    have e : gather_S512x32x16x128_S32x256x1_S32x256x32x16x128_234_0_n_n_0_2_13216128.siIdx (ix5 i s b h k) ⟨0, by decide⟩
        = ix3 i s 0 := by
      funext x
      match x with
      | ⟨0, _⟩ => rfl
      | ⟨1, _⟩ => rfl
      | ⟨2, _⟩ => rfl
    show _ = min (X (ix3 i s 0)).toInt.toNat 511
    rw [← e]
    rfl
  | ⟨1, _⟩ => exact Nat.zero_add b.val
  | ⟨2, _⟩ => exact Nat.zero_add h.val
  | ⟨3, _⟩ => exact Nat.zero_add k.val

theorem pages_apply (P : FVec Ideal S512x32x16x128 .f32) (T : IVec S32x256 32)
    (i : Fin 32) (n : Fin 8192) (h : Fin 16) (k : Fin 128) :
    pages P T (ix4 i n h k) =
      P (ix4 (rowOf T i ⟨n.val / 32, by omega⟩) ⟨n.val % 32, Nat.mod_lt _ (by norm_num)⟩ h k) := by
  unfold pages
  generalize hX : broadcastInDim S32x256x1 ![0, 1] bcast_S32x256_S32x256x1_0_1 (wrapT T) = X
  pointwise
  rw [gather_apply]
  have e : X (ix3 i ⟨n.val / 32, by omega⟩ 0) = wrapT T (ix2 i ⟨n.val / 32, by omega⟩) := by
    subst hX
    generalize wrapT T = W
    pointwise
  congr 2
  apply Fin.ext
  show min (X (ix3 i ⟨n.val / 32, by omega⟩ 0)).toInt.toNat 511 = min (wrapT T (ix2 i ⟨n.val / 32, by omega⟩)).toInt.toNat 511
  rw [e]

/-- An entry within the pages names its own page. -/
theorem rowOf_val (T : IVec S32x256 32) (i : Fin 32) (s : Fin 256) (h0 : 0 ≤ (T (ix2 i s)).toInt)
    (h1 : (T (ix2 i s)).toInt < 512) : (rowOf T i s).val = (T (ix2 i s)).toNat := by
  show min (wrapT T (ix2 i s)).toInt.toNat 511 = _
  rw [wrapT_apply]
  generalize T (ix2 i s) = w at h0 h1 ⊢
  have hc : IntOp.cmpi .slt w 0#32 ≠ 1#1 := by
    rw [Ne, IntOp.cmpi_slt]
    simpa using h0
  have e : Scalar.select (IntOp.cmpi .slt w 0#32) (IntOp.addi w 512#32) w = w := if_neg hc
  rw [e]
  have hw : w.toInt = w.toNat := by
    rw [BitVec.toInt_eq_toNat_cond] at h0 ⊢
    split
    · rfl
    · rename_i h
      rw [if_neg h] at h0
      have := w.isLt
      omega
  rw [hw] at h1 ⊢
  rw [Int.toNat_natCast]
  omega

end Cert.ReferenceIdeal.Value

end
-- ==== Proof.Pre.lean ====
module

public import proofs.«01_k».proof.Pre_served_KernelIdeal
public import proofs.«01_k».proof.Pre_served_ReferenceIdeal
public import Idealize.ShloMosaic.Lib.Pointwise
public import Idealize.ShloMosaic.Lib.ReduceAll
public import Idealize.ShloMosaic.PureOps.Ideal.Laws

@[expose] public section

noncomputable section

open Idealize.ShloMosaic Idealize.ShloMosaic.TcCoe

instance Cert.Pre_served_KernelIdeal.facts : Cert.Pre_served_KernelIdeal.Facts where
  bcast_S256_S1x256_1 := by decide
  bcast_S32_S32x1_0 := by decide
  bcast_S1x256_S32x256_0_1 := by decide
  bcast_S32x1_S32x256_0_1 := by decide
  bcast_S_S32x1x16x128 := by decide
  reducesTo_S32x1x16x128_S_d0_1_2_3 := by decide
  h_S_ := by decide
  bcast_S_S256x32x16x128 := by decide
  reducesTo_S256x32x16x128_S_d0_1_2_3 := by decide
  bcast_S_S32 := by decide
  reducesTo_S32_S_d0 := by decide
  bcast_S_S32x256 := by decide
  reducesTo_S32x256_S_d0_1 := by decide

instance Cert.Pre_served_ReferenceIdeal.facts : Cert.Pre_served_ReferenceIdeal.Facts where
  bcast_S256_S1x256_1 := by decide
  bcast_S32_S32x1_0 := by decide
  bcast_S1x256_S32x256_0_1 := by decide
  bcast_S32x1_S32x256_0_1 := by decide
  bcast_S_S32x1x16x128 := by decide
  reducesTo_S32x1x16x128_S_d0_1_2_3 := by decide
  h_S_ := by decide
  bcast_S_S512x32x16x128 := by decide
  reducesTo_S512x32x16x128_S_d0_1_2_3 := by decide
  bcast_S_S32 := by decide
  reducesTo_S32_S_d0 := by decide
  bcast_S_S32x256 := by decide
  reducesTo_S32x256_S_d0_1 := by decide

namespace Cert.Pre_served_KernelIdeal

open Facts

theorem ofBits_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

/-- The scale of the scores is a real number. -/
theorem ofBits_scale : ∃ r : ℝ, Ideal.ofBits .f32 0x3DB504F3#32 = r := by
  simp [Ideal.ofBits, Ideal.ieee, -EReal.coe_mul]

/-- An extended real whose absolute value is below the greatest is a real number. -/
theorem real_of_abs_lt (x : EReal) (h : FloatOps.cmpf (F := Ideal) (φ := .f32) .olt (FloatOps.absf (F := Ideal) (φ := .f32) x)
    (Ideal.ofBits .f32 0x7F800000#32) = 1#1) : ∃ r : ℝ, x = r := by
  rw [ofBits_inf] at h
  induction x with
  | bot => simp [FloatOps.cmpf, FloatOps.absf, Ideal.cmp] at h
  | top => simp [FloatOps.cmpf, FloatOps.absf, Ideal.cmp] at h
  | coe r => exact ⟨r, rfl⟩

/-- Whether entry `s` of row `i` is within the row's length. -/
def live (N : IVec S32 32) (i : Fin 32) (s : Fin 256) : BitVec 1 :=
  IntOp.cmpi .slt (BitVec.ofNat 32 s.val) (N (ix1 i))

/-- What the precondition says. -/
theorem served (Q : FVec Ideal S32x1x16x128 .f32) (K V : FVec Ideal S256x32x16x128 .f32) (T : IVec S32x256 32) (N : IVec S32 32)
    (h : fn (F := Ideal) Q K V T N ix0 = 1#1) :
    (∀ j, ∃ r : ℝ, Q j = r) ∧ (∀ j, ∃ r : ℝ, K j = r) ∧ (∀ i, 1 ≤ (N (ix1 i)).toInt) ∧
      ∀ i s, live N i s = 1#1 → 0 ≤ (T (ix2 i s)).toInt ∧ (T (ix2 i s)).toInt < 512 := by
  haveI : Subsingleton S_.Idx := ⟨fun a b => funext fun x => x.elim0⟩
  unfold fn fn_part1 at h
  obtain ⟨h1, h4⟩ := IntOp.andi_eq_one.1 h
  obtain ⟨h1, h3⟩ := IntOp.andi_eq_one.1 h1
  obtain ⟨h1, h2⟩ := IntOp.andi_eq_one.1 h1
  have h1 := Host.reduce_andi_all _ _ _ _ _ h1
  have h2 := Host.reduce_andi_all _ _ _ _ _ h2
  have h3 := Host.reduce_andi_all _ _ _ _ _ h3
  have h4 := Host.reduce_andi_all _ _ _ _ _ h4
  refine ⟨fun j => ?_, fun j => ?_, fun i => ?_, fun i s hl => ?_⟩
  · exact real_of_abs_lt _ (h1 j)
  · exact real_of_abs_lt _ (h2 j)
  · exact IntOp.cmpi_sge.1 (h3 (ix1 i))
  · have h := h4 (ix2 i s)
    have h : IntOp.ori (~~~(live N i s))
        (IntOp.andi (IntOp.cmpi .sge (T (ix2 i s)) 0#32) (IntOp.cmpi .slt (T (ix2 i s)) 512#32)) = 1#1 := by
      clear h1 h2 h3
      unfold live
      pointwise at h
      exact h
    rw [hl] at h
    have h : IntOp.andi (IntOp.cmpi .sge (T (ix2 i s)) 0#32) (IntOp.cmpi .slt (T (ix2 i s)) 512#32) = 1#1 := by
      rcases IntOp.ori_eq_one.1 h with h | h
      · exact absurd h (by decide)
      · exact h
    obtain ⟨ha, hb⟩ := IntOp.andi_eq_one.1 h
    exact ⟨IntOp.cmpi_sge.1 ha, IntOp.cmpi_slt.1 hb⟩

end Cert.Pre_served_KernelIdeal

end
-- ==== Proof.Value.lean ====
module

public import proofs.«01_k».proof.Proof.Host
public import proofs.«01_k».proof.Proof.Ref
public import proofs.«01_k».proof.Proof.Pre
public import Idealize.ShloMosaic.Lib.Layout

@[expose] public section

noncomputable section

namespace Cert.KernelIdeal.Talk

open Idealize.ShloMosaic Idealize.ShloMosaic.TcCoe
open Cert.KernelIdeal.Gen Cert.KernelIdeal.Attn
open Cert.ReferenceIdeal.Value (rowOf rowOf_val)

/-! ## The counts -/

/-- Whether a row uses a slot. -/
abbrev used (N : IVec S32 32) (i : Fin 32) (s : Fin 256) : Prop := liveBit N i s = 1#1

theorem uitofp_one (b : BitVec 1) : FloatOps.uitofp (F := Ideal) FTy.f32 b = if b = 1#1 then (1 : EReal) else 0 := by
  show ((b.toNat : ℝ) : EReal) = _
  rcases BitVec.eq_zero_or_eq_one b with h | h <;> subst h <;> simp

theorem sub_eq_iff (u : BitVec 32) (x p : ℕ) (hx : x < 2) (hp : p < 256) :
    IntOp.subi u (BitVec.ofNat 32 (256 * x)) = BitVec.ofNat 32 p ↔ u.toNat = 256 * x + p := by
  have e : (BitVec.ofNat 32 p + BitVec.ofNat 32 (256 * x)).toNat = 256 * x + p := by
    rw [← BitVec.ofNat_add, BitVec.toNat_ofNat, Nat.mod_eq_of_lt (by omega)]
    omega
  rw [← e]
  unfold IntOp.subi
  constructor
  · intro h
    rw [← h, BitVec.sub_add_cancel]
  · intro h
    rw [BitVec.eq_of_toNat_eq h, BitVec.add_sub_cancel]

/-- One slot's contribution to the count of one of a device's pages. -/
theorem slot_count (b : BitVec 1) (w : BitVec 32) (r : Fin 512) (x p : ℕ) (hx : x < 2) (hp : p < 256)
    (h : b = 1#1 → r.val = w.toNat) :
    FloatOps.uitofp (F := Ideal) FTy.f32 (IntOp.cmpi .eq
      (IntOp.subi (Scalar.select b w 4294967295#32) (BitVec.ofNat 32 (256 * x))) (BitVec.ofNat 32 p))
      = if b = 1#1 ∧ r = ⟨256 * x + p, by omega⟩ then (1 : EReal) else 0 := by
  rw [uitofp_one]
  refine if_congr ?_ rfl rfl
  rw [IntOp.cmpi_eq, sub_eq_iff _ x p hx hp, Fin.ext_iff]
  unfold Scalar.select
  by_cases hb : b = 1#1
  · rw [if_pos (show b = 1 from hb), h hb]
    exact (and_iff_right hb).symm
  · rw [if_neg (show ¬b = 1 from hb)]
    refine iff_of_false ?_ fun h' => hb h'.1
    have e : (4294967295#32 : BitVec 32).toNat = 4294967295 := by decide
    rw [e]
    omega

theorem pr_half (c : Dev nD) : (pr c).val / 8 = 1 - c.val / 8 := by
  revert c
  decide

theorem half_lt (c : Dev nD) : c.val / 8 < 2 := by
  revert c
  decide

/-- The page of the pool that a device holds as its page `p`. -/
def page (c : Dev nD) (p : Fin 256) : Fin 512 := ⟨256 * (c.val / 8) + p.val, by have := half_lt c; omega⟩

theorem sum_both (f : Fin 512 → EReal) (c : Dev nD) :
    (∑ p, f (page c p)) + ∑ p, f (page (pr c) p) = ∑ r, f r := by
  have hx := half_lt c
  have hy := pr_half c
  rw [sum_halves f]
  rcases (by omega : c.val / 8 = 0 ∨ c.val / 8 = 1) with h | h
  · have e1 : ∀ p, page c p = ⟨p.val, by omega⟩ := fun p => Fin.ext (by show 256 * (c.val / 8) + _ = p.val; omega)
    have e2 : ∀ p, page (pr c) p = ⟨256 + p.val, by omega⟩ := fun p =>
      Fin.ext (by show 256 * ((pr c).val / 8) + _ = 256 + p.val; omega)
    simp only [e1, e2]
  · have e1 : ∀ p, page (pr c) p = ⟨p.val, by omega⟩ := fun p =>
      Fin.ext (by show 256 * ((pr c).val / 8) + _ = p.val; omega)
    have e2 : ∀ p, page c p = ⟨256 + p.val, by omega⟩ := fun p => Fin.ext (by show 256 * (c.val / 8) + _ = 256 + p.val; omega)
    simp only [e1, e2]
    rw [add_comm]

/-! ## The arrays the two programs share -/

/-- What is known of the whole arrays: queries and keys are reals, the lengths positive, the used entries in range. -/
structure Good (Q : Vec Ideal S32x1x16x128 .f32) (K : Vec Ideal Cert.ReferenceIdeal.S512x32x16x128 .f32) (T : IVec S32x256 32)
    (N : IVec S32 32) (q : S32x1x16x128.Idx → ℝ) (k : Cert.ReferenceIdeal.S512x32x16x128.Idx → ℝ) (κ : ℝ) : Prop where
  hq : ∀ j, Q j = q j
  hk : ∀ j, K j = k j
  hκ : Ideal.ofBits .f32 0x3DB504F3#32 = κ
  hN : ∀ i, 1 ≤ (N (ix1 i)).toInt
  hT : ∀ i s, used N i s → 0 ≤ (T (ix2 i s)).toInt ∧ (T (ix2 i s)).toInt < 512

variable {Q : Vec Ideal S32x1x16x128 .f32} {K V : Vec Ideal Cert.ReferenceIdeal.S512x32x16x128 .f32} {T : IVec S32x256 32}
  {N : IVec S32 32} {q : S32x1x16x128.Idx → ℝ} {k : Cert.ReferenceIdeal.S512x32x16x128.Idx → ℝ} {κ : ℝ}

/-- The score of a page's token, a real. -/
def tok (q : S32x1x16x128.Idx → ℝ) (k : Cert.ReferenceIdeal.S512x32x16x128.Idx → ℝ) (κ : ℝ) (i : Fin 32) (h : Fin 16)
    (r : Fin 512) (b : Fin 32) : ℝ := (∑ x : Fin 128, q (ix4 i 0 h x) * k (ix4 r b h x)) * κ

/-- What both programs leave at an index. -/
def goal (q : S32x1x16x128.Idx → ℝ) (k : Cert.ReferenceIdeal.S512x32x16x128.Idx → ℝ) (κ : ℝ)
    (V : Vec Ideal Cert.ReferenceIdeal.S512x32x16x128 .f32) (T : IVec S32x256 32) (N : IVec S32 32) (i : Fin 32) (h : Fin 16)
    (d : Fin 128) : EReal :=
  att (used N i) (rowOf T i) (tok q k κ i h) (fun r b => V (ix4 r b h d))

theorem Good.some (g : Good Q K T N q k κ) (i : Fin 32) : ∃ s, used N i s := by
  refine ⟨0, ?_⟩
  unfold used liveBit
  rw [IntOp.cmpi_slt]
  have := g.hN i
  show (0#32).toInt < _
  rw [show (0#32 : BitVec 32).toInt = 0 from rfl]
  omega

theorem Good.tok_kernel (g : Good Q K T N q k κ) (i : Fin 32) (h : Fin 16) (r : Fin 512) (b : Fin 32) :
    ∑ x : Fin 128, Q (ix4 i 0 h x) * Ideal.ofBits .f32 0x3DB504F3#32 * K (ix4 r b h x) = (tok q k κ i h r b : EReal) := by
  unfold tok
  rw [Finset.sum_mul, coe_sum]
  refine Finset.sum_congr rfl fun x _ => ?_
  rw [g.hq, g.hk, g.hκ, ← EReal.coe_mul, ← EReal.coe_mul]
  congr 1
  ring

theorem Good.tok_reference (g : Good Q K T N q k κ) (i : Fin 32) (h : Fin 16) (r : Fin 512) (b : Fin 32) :
    (∑ x : Fin 128, Q (ix4 i 0 h x) * K (ix4 r b h x)) * Ideal.ofBits .f32 0x3DB504F3#32 = (tok q k κ i h r b : EReal) := by
  unfold tok
  rw [EReal.coe_mul, coe_sum, g.hκ]
  congr 1
  refine Finset.sum_congr rfl fun x _ => ?_
  rw [g.hq, g.hk, ← EReal.coe_mul]

/-! ## The reference -/

theorem reference_value (g : Good Q K T N q k κ) (i : Fin 32) (h : Fin 16) (d : Fin 128) :
    Cert.ReferenceIdeal.Value.combine (F := Ideal)
      (Cert.ReferenceIdeal.Value.expo (Cert.ReferenceIdeal.Value.scores (F := Ideal) Q K T N)
        (Cert.ReferenceIdeal.Value.top (Cert.ReferenceIdeal.Value.scores (F := Ideal) Q K T N)))
      (Cert.ReferenceIdeal.Value.pages (F := Ideal) V T) (ix4 i 0 h d) = goal q k κ V T N i h d := by
  have hs : ∀ n : Fin 8192, Cert.ReferenceIdeal.Value.scores (F := Ideal) Q K T N (ix4 i h 0 n)
      = score (used N i) (rowOf T i) (tok q k κ i h) ⟨n.val / 32, by omega⟩ ⟨n.val % 32, by omega⟩ := by
    intro n
    rw [Cert.ReferenceIdeal.Value.scores_apply]
    simp only [Cert.ReferenceIdeal.Value.pages_apply]
    rw [g.tok_reference, Cert.Pre_served_KernelIdeal.ofBits_neg_inf]
    rfl
  obtain ⟨μ, hμ⟩ : ∃ μ : ℝ, Cert.ReferenceIdeal.Value.top (Cert.ReferenceIdeal.Value.scores (F := Ideal) Q K T N) (ix3 i h 0) = (μ : EReal) := by
    rw [Cert.ReferenceIdeal.Value.top_apply, Cert.Pre_served_KernelIdeal.ofBits_neg_inf]
    refine fold_max_real _ _ (fun n _ => ?_) ?_
    · rw [hs]
      unfold score
      split
      · exact EReal.coe_ne_top _
      · exact bot_ne_top
    · obtain ⟨s, hl⟩ := g.some i
      refine ⟨⟨32 * s.val, by omega⟩, Finset.mem_univ _, ?_⟩
      rw [hs]
      have e : (⟨(⟨32 * s.val, by omega⟩ : Fin 8192).val / 32, by omega⟩ : Fin 256) = s := Fin.ext (by simp)
      unfold score
      rw [e, if_pos hl]
      exact EReal.coe_ne_bot _
  rw [Cert.ReferenceIdeal.Value.combine_apply]
  simp only [Cert.ReferenceIdeal.Value.expo_apply, Cert.ReferenceIdeal.Value.pages_apply, hμ, hs]
  rw [sum_tokens fun s b => Ideal.exp (score (used N i) (rowOf T i) (tok q k κ i h) s b - (μ : EReal))]
  rw [sum_tokens fun s b => V (ix4 (rowOf T i s) b h d) * Ideal.div
    (Ideal.exp (score (used N i) (rowOf T i) (tok q k κ i h) s b - (μ : EReal)))
    (∑ s, ∑ b, Ideal.exp (score (used N i) (rowOf T i) (tok q k κ i h) s b - (μ : EReal)))]
  exact reference_eq (used N i) (rowOf T i) (tok q k κ i h) (fun r b => V (ix4 r b h d)) (g.some i) μ

/-! ## The kernel -/

section

variable (m : (ℓ : Loc nD τ sig) → Buf (Elt Ideal) ℓ)

/-- What a device's arguments are of the whole arrays. -/
structure Holds (Q : Vec Ideal S32x1x16x128 .f32) (K V : Vec Ideal Cert.ReferenceIdeal.S512x32x16x128 .f32) (T : IVec S32x256 32)
    (N : IVec S32 32) (c : Dev nD) : Prop where
  q : argQ m c = Q
  k : ∀ p b h d, argK m c (ix4 p b h d) = K (ix4 (page c p) b h d)
  v : ∀ p b h d, argV m c (ix4 p b h d) = V (ix4 (page c p) b h d)
  t : argT m c = T
  n : argN m c = N

variable {m}

theorem w_count (g : Good Q K T N q k κ) {c : Dev nD} (a : Holds m Q K V T N c) (i : Fin 32) (n : Fin 8192) :
    (inp m c).w (ix2 i n) = cnt (used N i) (rowOf T i) (page c ⟨n.val / 32, by omega⟩) := by
  rw [w_apply, a.t, a.n]
  unfold cnt
  refine Finset.sum_congr rfl fun s _ => ?_
  exact slot_count (liveBit N i s) (T (ix2 i s)) (rowOf T i s) (c.val / 8) (n.val / 32) (half_lt c) (by omega) fun hl =>
    rowOf_val T i s (g.hT i s hl).1 (g.hT i s hl).2

theorem wt_eq (g : Good Q K T N q k κ) {c : Dev nD} (a : Holds m Q K V T N c) (h : Fin 16) (i : Fin 32) (n : Fin 8192) :
    wt (inp m c) h i n = cnt (used N i) (rowOf T i) (page c ⟨n.val / 32, by omega⟩)
      * Ideal.exp (tok q k κ i h (page c ⟨n.val / 32, by omega⟩) ⟨n.val % 32, by omega⟩ : ℝ) := by
  unfold wt
  rw [w_count g a]
  simp only [q_apply, k_apply, a.q, a.k]
  rw [g.tok_kernel]

theorem den_eq (g : Good Q K T N q k κ) {c : Dev nD} (a : Holds m Q K V T N c) (h : Fin 16) (i : Fin 32) :
    ∑ n, wt (inp m c) h i n
      = ∑ p, ∑ b, cnt (used N i) (rowOf T i) (page c p) * Ideal.exp (tok q k κ i h (page c p) b : ℝ) := by
  simp only [wt_eq g a]
  exact sum_tokens fun p b => cnt (used N i) (rowOf T i) (page c p) * Ideal.exp (tok q k κ i h (page c p) b : ℝ)

theorem num_eq (g : Good Q K T N q k κ) {c : Dev nD} (a : Holds m Q K V T N c) (h : Fin 16) (i : Fin 32) (d : Fin 128) :
    ∑ n : Fin 8192, wt (inp m c) h i n * (inp m c).pg true (ix4 ⟨n.val / 32, by omega⟩ ⟨n.val % 32, by omega⟩ h d)
      = ∑ p, ∑ b, (cnt (used N i) (rowOf T i) (page c p) * Ideal.exp (tok q k κ i h (page c p) b : ℝ))
          * V (ix4 (page c p) b h d) := by
  simp only [wt_eq g a, v_apply, a.v]
  exact sum_tokens fun p b => (cnt (used N i) (rowOf T i) (page c p) * Ideal.exp (tok q k κ i h (page c p) b : ℝ))
          * V (ix4 (page c p) b h d)

theorem kernel_value (g : Good Q K T N q k κ) (a : ∀ c, Holds m Q K V T N c) (c : Dev nD) (i : Fin 32) (h : Fin 16) (d : Fin 128) :
    oAll (inp m) c (ix3 i h d) = goal q k κ V T N i h d := by
  rw [oAll_apply, num_eq g (a c), num_eq g (a (pr c)), den_eq g (a c), den_eq g (a (pr c))]
  rw [sum_both (fun r => ∑ b, (cnt (used N i) (rowOf T i) r * Ideal.exp (tok q k κ i h r b : ℝ)) * V (ix4 r b h d)) c,
    sum_both (fun r => ∑ b, cnt (used N i) (rowOf T i) r * Ideal.exp (tok q k κ i h r b : ℝ)) c]
  exact kernel_eq (used N i) (rowOf T i) (tok q k κ i h) (fun r b => V (ix4 r b h d)) (g.some i)

theorem result_apply (c : Dev nD) (i : Fin 32) (h : Fin 16) (d : Fin 128) :
    (V5 m (outs m) c main_v30 : Vec Ideal S32x1x16x128 .f32) (ix4 i 0 h d) = oAll (inp m) c (ix3 i h d) := by
  rw [← V4_out m c]
  unfold V5
  generalize V4 m (outs m) c = V
  after_reads_at

end

end Cert.KernelIdeal.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

instance nonempty_bits (e : EltTy) : Nonempty (Elt Bits e) := by
  cases e <;> exact ⟨(0 : BitVec _)⟩

instance nonempty_ideal (e : EltTy) : Nonempty (Elt Ideal e) := by
  cases e <;> first | exact ⟨(0 : EReal)⟩ | exact ⟨(0 : BitVec _)⟩

/-- The kernel read over bits: it ends from every launch, the arguments as they were, the counters at zero. -/
theorem frame_kernel : Cert.quiescent_Kernel := fun m ρ _ => by
  rw [defs_eq]
  exact (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Talk.run_main (F := Bits) m ρ)

/-- The kernel read over the extended reals: the same. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Talk.run_main (F := Ideal) m ρ)

/-- The reference: it ends, its arguments as they were; it declares no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- A device's block of an array cut over the first axis of the mesh, read at an index. -/
theorem block_apply (c : Dev Cert.KernelIdeal.nD) (K : Vec Ideal Cert.ReferenceIdeal.S512x32x16x128 .f32)
    (p : Fin 256) (b : Fin 32) (h : Fin 16) (d : Fin 128) :
    Layout.blockN ⟨4, ![256, 32, 16, 128]⟩ ⟨4, ![512, 32, 16, 128]⟩ (Layout.meshBlock [2, 2, 4] ![[0], [], [], []] c) K (by decide)
      (ix4 p b h d) = K (ix4 (Cert.KernelIdeal.Talk.page c p) b h d) := by
  rw [Layout.blockN_apply]
  congr 1
  funext x
  apply Fin.ext
  rw [Layout.TilesN.idx_val]
  have hx := Cert.KernelIdeal.Talk.half_lt c
  match x with
  | ⟨0, _⟩ =>
    show ((c.val / 8) % 2 * 1 + 0) * 256 + p.val = 256 * (c.val / 8) + p.val
    omega
  | ⟨1, _⟩ => exact (congrArg (· + b.val) (Nat.zero_mul 32)).trans (Nat.zero_add _)
  | ⟨2, _⟩ => exact (congrArg (· + h.val) (Nat.zero_mul 16)).trans (Nat.zero_add _)
  | ⟨3, _⟩ => exact (congrArg (· + d.val) (Nat.zero_mul 128)).trans (Nat.zero_add _)

/-- Every page of the pool is a page of device 0 or of device 8. -/
theorem page_cover (r : Fin 512) : ∃ c p, Cert.KernelIdeal.Talk.page c p = r := by
  by_cases h : r.val < 256
  · exact ⟨(0 : Fin 16), ⟨r.val, h⟩, Fin.ext (by show 256 * (0 / 8) + r.val = r.val; omega)⟩
  · exact ⟨(8 : Fin 16), ⟨r.val - 256, by omega⟩, Fin.ext (by show 256 * (8 / 8) + (r.val - 256) = r.val; omega)⟩

/-- The two programs, from matching arguments that satisfy the precondition, leave equal results. -/
theorem agree : Cert.algebraic_KernelIdeal_ReferenceIdeal_pre_served_KernelIdeal := by
  intro m g m' g' hpre harg
  let Q : Vec Ideal Cert.KernelIdeal.S32x1x16x128 .f32 :=
    m' (((0 : Dev Cert.ReferenceIdeal.nD).tc : Thread Cert.ReferenceIdeal.nD Cert.ReferenceIdeal.τ).loc Cert.ReferenceIdeal.main_arg0)
  let K : Vec Ideal Cert.ReferenceIdeal.S512x32x16x128 .f32 :=
    m' (((0 : Dev Cert.ReferenceIdeal.nD).tc : Thread Cert.ReferenceIdeal.nD Cert.ReferenceIdeal.τ).loc Cert.ReferenceIdeal.main_arg1)
  let V : Vec Ideal Cert.ReferenceIdeal.S512x32x16x128 .f32 :=
    m' (((0 : Dev Cert.ReferenceIdeal.nD).tc : Thread Cert.ReferenceIdeal.nD Cert.ReferenceIdeal.τ).loc Cert.ReferenceIdeal.main_arg2)
  let T : IVec Cert.KernelIdeal.S32x256 32 :=
    m' (((0 : Dev Cert.ReferenceIdeal.nD).tc : Thread Cert.ReferenceIdeal.nD Cert.ReferenceIdeal.τ).loc Cert.ReferenceIdeal.main_arg3)
  let N : IVec Cert.KernelIdeal.S32 32 :=
    m' (((0 : Dev Cert.ReferenceIdeal.nD).tc : Thread Cert.ReferenceIdeal.nD Cert.ReferenceIdeal.τ).loc Cert.ReferenceIdeal.main_arg4)
  have hold : ∀ c, Cert.KernelIdeal.Talk.Holds m Q K V T N c := fun c =>
    ⟨(harg c).1, fun p b h d => (congrFun (harg c).2.1 _).trans (block_apply c K p b h d),
      fun p b h d => (congrFun (harg c).2.2.1 _).trans (block_apply c V p b h d), (harg c).2.2.2.1, (harg c).2.2.2.2⟩
  have hs := fun c => Cert.Pre_served_KernelIdeal.served (Cert.KernelIdeal.Talk.argQ m c) (Cert.KernelIdeal.Talk.argK m c)
    (Cert.KernelIdeal.Talk.argV m c) (Cert.KernelIdeal.Talk.argT m c) (Cert.KernelIdeal.Talk.argN m c) (congrFun (hpre c) ix0)
  have hQ : ∀ j, ∃ r : ℝ, Q j = r := by
    have := (hs 0).1
    rw [(hold 0).q] at this
    exact this
  have hK : ∀ j, ∃ r : ℝ, K j = r := by
    intro j
    obtain ⟨r, b, h, d, rfl⟩ : ∃ r b h d, j = ix4 r b h d := ⟨_, _, _, _, eq_ix4 j⟩
    obtain ⟨c, p, rfl⟩ := page_cover r
    rw [← (hold c).k p b h d]
    exact (hs c).2.1 _
  choose q hq using hQ
  choose k hk using hK
  obtain ⟨κ, hκ⟩ := Cert.Pre_served_KernelIdeal.ofBits_scale
  have good : Cert.KernelIdeal.Talk.Good Q K T N q k κ := by
    have h3 := (hs 0).2.2.1
    have h4 := (hs 0).2.2.2
    rw [(hold 0).n] at h3 h4
    rw [(hold 0).t] at h4
    exact ⟨hq, hk, hκ, h3, h4⟩
  refine ⟨Cert.ReferenceIdeal.Value.res_main_v39 m' 0, ?_, ?_⟩
  · refine (θ_run Cert.KernelIdeal.defs _ _).mono (fun r h c => ?_) (Cert.KernelIdeal.Talk.run_main (F := Ideal) m g)
    obtain ⟨h0, h1, h2, h3, h4, h5⟩ := h.1 c
    refine ⟨h5.trans ?_, h0, h1, h2, h3, h4⟩
    have e : ∀ j : Cert.KernelIdeal.S32x1x16x128.Idx,
        (Cert.KernelIdeal.Gen.V5 m (Cert.KernelIdeal.Talk.outs m) c Cert.KernelIdeal.main_v30 : Vec Ideal Cert.KernelIdeal.S32x1x16x128 .f32) j
          = Cert.ReferenceIdeal.Value.combine (F := Ideal)
              (Cert.ReferenceIdeal.Value.expo (Cert.ReferenceIdeal.Value.scores (F := Ideal) Q K T N)
                (Cert.ReferenceIdeal.Value.top (Cert.ReferenceIdeal.Value.scores (F := Ideal) Q K T N)))
              (Cert.ReferenceIdeal.Value.pages (F := Ideal) V T) j := by
      intro j
      obtain ⟨i, z, h, d, rfl⟩ : ∃ i z h d, j = ix4 i z h d := ⟨_, _, _, _, eq_ix4 j⟩
      obtain rfl : z = 0 := Subsingleton.elim _ _
      rw [Cert.KernelIdeal.Talk.result_apply, Cert.KernelIdeal.Talk.kernel_value good hold,
        Cert.KernelIdeal.Talk.reference_value good]
    exact (funext e).trans (Cert.ReferenceIdeal.Value.res_eq m' 0).symm
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Pre_served_KernelIdeal.facts, Cert.Pre_served_ReferenceIdeal.facts,
  frame_kernel, frame_ideal, fun m ρ _ => frame_ideal m ρ trivial, frame_reference, fun m ρ _ => frame_reference m ρ trivial,
  trivial, agree⟩

end Cert.Proof

end
